-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .f32) (main_arg1 : FVec F S128x8 .f32) (main_arg2 : IVec S256x2 32) (main_arg3 : FVec F S2x128x256 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 8#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Pre_finite_and_in_range_ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .f32) (main_arg1 : FVec F S128x8 .f32) (main_arg2 : IVec S256x2 32) (main_arg3 : FVec F S8x128x256 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 8#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S64x256 : Shape := ⟨2, ![64, 256]⟩
abbrev S256x256 : Shape := ⟨2, ![256, 256]⟩
abbrev S4x64x256 : Shape := ⟨3, ![4, 64, 256]⟩
abbrev S4 : Shape := ⟨1, ![4]⟩
abbrev S_ : Shape := ⟨0, ![]⟩
abbrev S256x8 : Shape := ⟨2, ![256, 8]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩
abbrev S1 : Shape := ⟨1, ![1]⟩
abbrev S1x64x256 : Shape := ⟨3, ![1, 64, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x2, .i32⟩
  | .hbm, ⟨3, _⟩ => ⟨S2x128x256, .f32⟩
  | .hbm, ⟨4, _⟩ => ⟨S64x256, .f32⟩
  | .local _ .vmem, ⟨0, _⟩ => ⟨S256x128, .f32⟩
  | .local _ .vmem, ⟨1, _⟩ => ⟨S128x8, .f32⟩
  | .local _ .vmem, ⟨2, _⟩ => ⟨S256x2, .i32⟩
  | .local _ .vmem, ⟨3, _⟩ => ⟨S2x128x256, .f32⟩
  | .local _ .vmem, ⟨4, _⟩ => ⟨S64x256, .f32⟩
  | .local _ .vmem, ⟨5, _⟩ => ⟨S256x256, .bf16⟩
  | .local _ .vmem, ⟨6, _⟩ => ⟨S4x64x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_42 : BitVec 32 := 0#32
  let c0_i32_40 : BitVec 32 := 0#32
  let c1_i32_41 : BitVec 32 := 1#32
  let v90 : BitVec 32 := Scalar.muli c0_i32_40 c1_i32_41
  let v91 : BitVec 32 := Scalar.addi c0_i32_42 v90
  v91.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_42 : BitVec 32 := 0#32
  let c1_i32_40 : BitVec 32 := 1#32
  let c1_i32_41 : BitVec 32 := 1#32
  let v90 : BitVec 32 := Scalar.muli c1_i32_40 c1_i32_41
  let v91 : BitVec 32 := Scalar.addi c0_i32_42 v90
  v91.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_42 : BitVec 32 := 0#32
  let c2_i32_40 : BitVec 32 := 2#32
  let c1_i32_41 : BitVec 32 := 1#32
  let v90 : BitVec 32 := Scalar.muli c2_i32_40 c1_i32_41
  let v91 : BitVec 32 := Scalar.addi c0_i32_42 v90
  v91.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_42 : BitVec 32 := 0#32
  let c3_i32_40 : BitVec 32 := 3#32
  let c1_i32_41 : BitVec 32 := 1#32
  let v90 : BitVec 32 := Scalar.muli c3_i32_40 c1_i32_41
  let v91 : BitVec 32 := Scalar.addi c0_i32_42 v90
  v91.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v78 : BitVec 1 := Scalar.cmpi .eq v2 c0_i32_31
  let v79 : BitVec 32 := Scalar.extui v78
  let c0_i32_32 : BitVec 32 := 0#32
  let v80 : BitVec 1 := Scalar.cmpi .ne v79 c0_i32_32
  v80

def k0_dev5 : Nat :=
  let c0_i32_46 : BitVec 32 := 0#32
  let c2_i32_44 : BitVec 32 := 2#32
  let c1_i32_45 : BitVec 32 := 1#32
  let v96 : BitVec 32 := Scalar.muli c2_i32_44 c1_i32_45
  let v97 : BitVec 32 := Scalar.addi c0_i32_46 v96
  v97.toNat
def k0_dev6 : Nat :=
  let c0_i32_57 : BitVec 32 := 0#32
  let c1_i32_55 : BitVec 32 := 1#32
  let c1_i32_56 : BitVec 32 := 1#32
  let v111 : BitVec 32 := Scalar.muli c1_i32_55 c1_i32_56
  let v112 : BitVec 32 := Scalar.addi c0_i32_57 v111
  v112.toNat
def k0_dev7 : Nat :=
  let c0_i32_68 : BitVec 32 := 0#32
  let c3_i32_66 : BitVec 32 := 3#32
  let c1_i32_67 : BitVec 32 := 1#32
  let v126 : BitVec 32 := Scalar.muli c3_i32_66 c1_i32_67
  let v127 : BitVec 32 := Scalar.addi c0_i32_68 v126
  v127.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v81 : BitVec 1 := Scalar.cmpi .eq v2 c1_i32_33
  let v82 : BitVec 32 := Scalar.extui v81
  let c0_i32_34 : BitVec 32 := 0#32
  let v83 : BitVec 1 := Scalar.cmpi .ne v82 c0_i32_34
  v83

def k0_dev8 : Nat :=
  let c0_i32_46 : BitVec 32 := 0#32
  let c3_i32_44 : BitVec 32 := 3#32
  let c1_i32_45 : BitVec 32 := 1#32
  let v96 : BitVec 32 := Scalar.muli c3_i32_44 c1_i32_45
  let v97 : BitVec 32 := Scalar.addi c0_i32_46 v96
  v97.toNat
def k0_dev9 : Nat :=
  let c0_i32_57 : BitVec 32 := 0#32
  let c2_i32_55 : BitVec 32 := 2#32
  let c1_i32_56 : BitVec 32 := 1#32
  let v111 : BitVec 32 := Scalar.muli c2_i32_55 c1_i32_56
  let v112 : BitVec 32 := Scalar.addi c0_i32_57 v111
  v112.toNat
def k0_dev10 : Nat :=
  let c0_i32_69 : BitVec 32 := 0#32
  let c0_i32_67 : BitVec 32 := 0#32
  let c1_i32_68 : BitVec 32 := 1#32
  let v126 : BitVec 32 := Scalar.muli c0_i32_67 c1_i32_68
  let v127 : BitVec 32 := Scalar.addi c0_i32_69 v126
  v127.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v84 : BitVec 1 := Scalar.cmpi .eq v2 c2_i32_35
  let v85 : BitVec 32 := Scalar.extui v84
  let c0_i32_36 : BitVec 32 := 0#32
  let v86 : BitVec 1 := Scalar.cmpi .ne v85 c0_i32_36
  v86

def k0_dev11 : Nat :=
  let c0_i32_47 : BitVec 32 := 0#32
  let c0_i32_45 : BitVec 32 := 0#32
  let c1_i32_46 : BitVec 32 := 1#32
  let v96 : BitVec 32 := Scalar.muli c0_i32_45 c1_i32_46
  let v97 : BitVec 32 := Scalar.addi c0_i32_47 v96
  v97.toNat
def k0_dev12 : Nat :=
  let c0_i32_59 : BitVec 32 := 0#32
  let c3_i32_57 : BitVec 32 := 3#32
  let c1_i32_58 : BitVec 32 := 1#32
  let v111 : BitVec 32 := Scalar.muli c3_i32_57 c1_i32_58
  let v112 : BitVec 32 := Scalar.addi c0_i32_59 v111
  v112.toNat
def k0_dev13 : Nat :=
  let c0_i32_70 : BitVec 32 := 0#32
  let c1_i32_68 : BitVec 32 := 1#32
  let c1_i32_69 : BitVec 32 := 1#32
  let v126 : BitVec 32 := Scalar.muli c1_i32_68 c1_i32_69
  let v127 : BitVec 32 := Scalar.addi c0_i32_70 v126
  v127.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v87 : BitVec 1 := Scalar.cmpi .eq v2 c3_i32_37
  let v88 : BitVec 32 := Scalar.extui v87
  let c0_i32_38 : BitVec 32 := 0#32
  let v89 : BitVec 1 := Scalar.cmpi .ne v88 c0_i32_38
  v89

def k0_dev14 : Nat :=
  let c0_i32_46 : BitVec 32 := 0#32
  let c1_i32_44 : BitVec 32 := 1#32
  let c1_i32_45 : BitVec 32 := 1#32
  let v96 : BitVec 32 := Scalar.muli c1_i32_44 c1_i32_45
  let v97 : BitVec 32 := Scalar.addi c0_i32_46 v96
  v97.toNat
def k0_dev15 : Nat :=
  let c0_i32_58 : BitVec 32 := 0#32
  let c0_i32_56 : BitVec 32 := 0#32
  let c1_i32_57 : BitVec 32 := 1#32
  let v111 : BitVec 32 := Scalar.muli c0_i32_56 c1_i32_57
  let v112 : BitVec 32 := Scalar.addi c0_i32_58 v111
  v112.toNat
def k0_dev16 : Nat :=
  let c0_i32_70 : BitVec 32 := 0#32
  let c2_i32_68 : BitVec 32 := 2#32
  let c1_i32_69 : BitVec 32 := 1#32
  let v126 : BitVec 32 := Scalar.muli c2_i32_68 c1_i32_69
  let v127 : BitVec 32 := Scalar.addi c0_i32_70 v126
  v127.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 87
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x2, .i32⟩
  | .hbm, ⟨3, _⟩ => ⟨S8x128x256, .f32⟩
  | .hbm, ⟨4, _⟩ => ⟨S256x8, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x8, .f32⟩
  | .hbm, ⟨9, _⟩ => ⟨S256x8, .f32⟩
  | .hbm, ⟨10, _⟩ => ⟨S256x8, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x8, .f32⟩
  | .hbm, ⟨15, _⟩ => ⟨S256x8, .f32⟩
  | .hbm, ⟨16, _⟩ => ⟨S256x1, .i32⟩
  | .hbm, ⟨17, _⟩ => ⟨S256, .i32⟩
  | .hbm, ⟨18, _⟩ => ⟨S256x1, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S256x1, .i32⟩
  | .hbm, ⟨37, _⟩ => ⟨S256x2, .i32⟩
  | .hbm, ⟨38, _⟩ => ⟨S256, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256x1, .i32⟩
  | .hbm, ⟨55, _⟩ => ⟨S256x2, .i32⟩
  | .hbm, ⟨56, _⟩ => ⟨S256, .f32⟩
  | .hbm, ⟨57, _⟩ => ⟨S256, .f32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S256x1, .i32⟩
  | .hbm, ⟨66, _⟩ => ⟨S256x128x256, .f32⟩
  | .hbm, ⟨67, _⟩ => ⟨S256x256, .f32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x128x256, .f32⟩
  | .hbm, ⟨77, _⟩ => ⟨S256x256, .f32⟩
  | .hbm, ⟨78, _⟩ => ⟨S256, .f32⟩
  | .hbm, ⟨79, _⟩ => ⟨S256x1, .f32⟩
  | .hbm, ⟨80, _⟩ => ⟨S256x256, .f32⟩
  | .hbm, ⟨81, _⟩ => ⟨S256x256, .f32⟩
  | .hbm, ⟨82, _⟩ => ⟨S256, .f32⟩
  | .hbm, ⟨83, _⟩ => ⟨S256x1, .f32⟩
  | .hbm, ⟨84, _⟩ => ⟨S256x256, .f32⟩
  | .hbm, ⟨85, _⟩ => ⟨S256x256, .f32⟩
  | .hbm, ⟨86, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.KernelIdealGeom.lean ====
/-
# The places of the exchange

Four devices, each with a row block per device in its own partial buffer and a slot per device in its own landing
buffer. This module names them at a symbolic device: the row block `blkM d`, the slot `slotM d`, the semaphores `sendS d`
and `recvS d`, the three other devices of a device, and the values that a device computes and moves. It then spells the
kernel after it has read its device as ONE program, `plain c`, in which the device is a variable, and proves that the
printed kernel is it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Xchg

open Cert.KernelIdeal Cert.KernelIdeal.Gen

open Idealize.ShloMosaic
open Idealize.ShloMosaic.TcCoe
open Idealize.SL Idealize.SL.Sem

variable {F : FTy → Type} [FloatOps F]

/-! ## The other three devices -/

set_option backward.proofsInPublic true in
/-- The next device. -/
def right (c : Dev nD) : Dev nD := ⟨(c.val + 1) % 4, Nat.mod_lt _ (by decide)⟩
set_option backward.proofsInPublic true in
/-- The device across. -/
def diag (c : Dev nD) : Dev nD := ⟨(c.val + 2) % 4, Nat.mod_lt _ (by decide)⟩
set_option backward.proofsInPublic true in
/-- The device before. -/
def left (c : Dev nD) : Dev nD := ⟨(c.val + 3) % 4, Nat.mod_lt _ (by decide)⟩

theorem right_left (c : Dev nD) : right (left c) = c := by revert c; decide
theorem left_right (c : Dev nD) : left (right c) = c := by revert c; decide
theorem diag_diag (c : Dev nD) : diag (diag c) = c := by revert c; decide
theorem right_ne (c : Dev nD) : right c ≠ c := by revert c; decide
theorem diag_ne (c : Dev nD) : diag c ≠ c := by revert c; decide
theorem left_ne (c : Dev nD) : left c ≠ c := by revert c; decide

/-- All four devices, as seen from one of them. -/
theorem seen_from (c : Dev nD) : (Finset.univ : Finset (Dev nD)) = [c, diag c, right c, left c].toFinset := by revert c; decide
/-- The four devices as device `c` sees them are distinct. -/
theorem seen_nodup (c : Dev nD) : [c, diag c, right c, left c].Nodup := by revert c; decide
/-- The other three. -/
theorem peers_eq (c : Dev nD) : Finset.univ.erase c = [diag c, right c, left c].toFinset := by revert c; decide
theorem peers_nodup (c : Dev nD) : [diag c, right c, left c].Nodup := by revert c; decide

/-! ## Buffers, blocks, semaphores -/

/-- The staging buffers whole: the rows, the router, the indices, the device's two matrices, the result. -/
abbrev xM : Memref sig .tc .vmem S256x128 .f32 := Memref.whole cc0_stg0_0
abbrev gM : Memref sig .tc .vmem S128x8 .f32 := Memref.whole cc0_stg1_0
abbrev iM : Memref sig .tc .vmem S256x2 .i32 := Memref.whole cc0_stg2_0
abbrev wM : Memref sig .tc .vmem S2x128x256 .f32 := Memref.whole cc0_stg3_0
abbrev oM : Memref sig .tc .vmem S64x256 .f32 := Memref.whole cc0_stg4_0
/-- The partial results, four blocks of 64 rows; -/
abbrev pM : Memref sig .tc .vmem S256x256 .bf16 := Memref.whole cc0_scratch0
/-- and where the other devices' blocks land, four slots. -/
abbrev rM : Memref sig .tc .vmem S4x64x256 .bf16 := Memref.whole cc0_scratch1

/-- The blocks, slots and semaphores of every device lie within their arrays. -/
theorem row_inb (d : Dev nD) : ∀ a, (![64 * d.val, 0] : Fin 2 → Nat) a + S64x256.size a ≤ S256x256.size a := by revert d; decide
theorem slot_inb (d : Dev nD) : ∀ a, (![d.val, 0, 0] : Fin 3 → Nat) a + S1x64x256.size a ≤ S4x64x256.size a := by revert d; decide
theorem sem_inb (d : Dev nD) : ∀ a, (![d.val] : Fin 1 → Nat) a + S1.size a ≤ S4.size a := by revert d; decide
theorem row_slices (d : Dev nD) : S256x256.Slices ![64 * d.val, 0] S64x256 := by revert d; decide

/-- Device `d`'s block of rows of the sending buffer, and its slot of the landing buffer. -/
abbrev rowRect (d : Dev nD) : Rect S256x256 := Rect.unit (s := S256x256) ![64 * d.val, 0] S64x256.size (row_inb d)
abbrev slotRect (d : Dev nD) : Rect S4x64x256 := Rect.unit (s := S4x64x256) ![d.val, 0, 0] S1x64x256.size (slot_inb d)

theorem row_packed (d : Dev nD) : (rowRect d).PackedRows (EltTy.packing .bf16) := by revert d; decide
theorem row_words (d : Dev nD) : (rowRect d).WholeWords (EltTy.packing .bf16) := by revert d; decide
theorem slot_words (d : Dev nD) : (slotRect d).WholeWords (EltTy.packing .bf16) := by revert d; decide

/-- The rows of the partial buffer that device `d` is to receive. -/
abbrev blkM (d : Dev nD) : Memref sig .tc .vmem S64x256 .bf16 := pM.slice (rowRect d) (fun _ => rfl)
/-- The slot of the landing buffer that device `d` writes. -/
abbrev slotM (d : Dev nD) : Memref sig .tc .vmem S64x256 .bf16 := (rM.slice (slotRect d) (fun _ => rfl)).squeeze S64x256 squeezes_S1x64x256_S64x256

/-- A copy of a block into a slot moves whole words. -/
theorem blk_exact (d : Dev nD) : (blkM d).view.WordExact := (Memref.isWhole_whole _).wordExact_slice rfl _ (row_words d)
theorem slot_exact (d : Dev nD) : (slotM d).view.WordExact := ((Memref.isWhole_whole _).wordExact_slice rfl _ (slot_words d)).reshape _ _

/-- The barrier semaphore, and the send and receive semaphores of device `d`. -/
abbrev barS : Sem sig := (SemArray.scalar (sig.barrier 0 rfl) : Sems sig S_).sem
abbrev sendS (d : Dev nD) : DmaSem sig := ((cc0_scratch2.slice (Rect.unit (s := S4) ![d.val] S1.size (sem_inb d))).squeeze S_ squeezes_S1_S_).sem
abbrev recvS (d : Dev nD) : DmaSem sig := ((cc0_scratch3.slice (Rect.unit (s := S4) ![d.val] S1.size (sem_inb d))).squeeze S_ squeezes_S1_S_).sem

/-! ## Values -/

/-- Rows `64 d …` of `a` times `b`, in f32; -/
def prodOf (d : Dev nD) (a b : FVec F S256x256 .bf16) : FVec F S64x256 .f32 :=
  matmul dot_S64x256_S256x256_S64x256_1_0_0_1_n_n none (extractStridedSlice S64x256 ![64 * d.val, 0] a (row_slices d)) b (constant S64x256 .f32 0x00000000#32)
/-- and rounded to bf16: what is sent to device `d`. -/
def chunkOf (d : Dev nD) (a b : FVec F S256x256 .bf16) : FVec F S64x256 .bf16 :=
  shapeCast S64x256 (truncf .bf16 (prodOf d a b) bitsLt_bf16_f32) shapeCasts_S64x256_S64x256
/-- A received slot, in f32. -/
def wide (v : Vec F S1x64x256 .bf16) : FVec F S64x256 .f32 :=
  extf .f32 (shapeCast S64x256 v shapeCasts_S1x64x256_S64x256) bitsLt_bf16_f32
/-- The sum a device stores: its own product and the three received ones, in the kernel's order. -/
def sumOf (c : Dev nD) (a b : FVec F S256x256 .bf16) (l r g : Vec F S1x64x256 .bf16) : FVec F S64x256 .f32 :=
  addf (addf (addf (prodOf c a b) (wide l)) (wide r)) (wide g)

/-- The place word of a device on its axis. -/
def place (c : Dev nD) : BitVec 32 := Scalar.remsi (Scalar.divsi (Dev.word c) 1#32) 4#32

/-- The scaled rows `[x · w_e | x · w_{e+1}]` of device `c`, from the arrays that it loads; -/
def lhsOf (c : Dev nD) (x : Vec F S256x128 .f32) (g : Vec F S128x8 .f32) (i₀ i₁ : Vec F S256x1 .i32) : FVec F S256x256 .bf16 :=
  k0_pay28 (place c) (k0_pay22 x) (k0_pay23 x g) (k0_pay24 i₀) (k0_pay25 i₁) (k0_pay26 x g i₀) (k0_pay27 i₁)
/-- its two experts' matrices, one above the other. -/
def rhsOf (w₀ w₁ : Vec F S1x128x256 .f32) : FVec F S256x256 .bf16 := k0_pay1 (k0_pay29 w₀ w₁)

/-! ## The program at a symbolic device -/

/-- The type of the kernel's programs. -/
abbrev Pg (F : FTy → Type) : Type 1 := Prog (TpuEff nD τ sig (Elt F) Λ₀ .tc) PUnit.{1}

/-- Tell device `d` that this device's landing buffer is ready — unless `d` is this device. -/
def tell (d c : Dev nD) (k : Pg F) : Pg F :=
  if d = c then k else Prog.op (.semSignal (Dev.tc d) barS ((1 : ℕ) : ℤ)) fun _ => k

/-- Compute the block of device `d`, store it and start its copy into slot `c` of device `d`. -/
def give (c d : Dev nD) (a b : FVec F S256x256 .bf16) (k : Pg F) : Pg F :=
  Prog.op (.load pM (rowRect d).toLoadRect (View.loadsAt_vmem h_S64x256)) fun _ =>
  Prog.op (.store pM (rowRect d) (chunkOf d a b) Finset.univ
    (View.stores_vmem h_S64x256 ((Memref.isWhole_whole _).storeExact_slice rfl _ (row_packed d)) (fun _ => rfl)) (.inl rfl)) fun _ =>
  Prog.op (.enqueueDma (blkM d) (.remote (Dev.tc d) (slotM c) (.dma (sendS d))) (.dma (recvS c)) (blk_exact d) (slot_exact c)
    ⟨⟨rfl, Or.inl rfl⟩, trivial⟩) fun _ => k

/-- Wait for device `j`'s block and load it. -/
def take (j : Dev nD) (k : Vec F S1x64x256 .bf16 → Pg F) : Pg F :=
  Prog.op (.waitDma2 (recvS j) (blkM 0) (slotM j) (blk_exact 0) (slot_exact j)) fun _ =>
  Prog.op (.load rM (slotRect j).toLoadRect (View.loadsAt_vmem h_S1x64x256)) k

/-- Wait until the copy to device `d` has left. -/
def settle (d : Dev nD) (k : Pg F) : Pg F :=
  Prog.op (.waitDma2 (sendS d) (slotM 0) (blkM d) (slot_exact 0) (blk_exact d)) fun _ => k

/-- Store the result. -/
def putOut (v : FVec F S64x256 .f32) (k : Pg F) : Pg F :=
  Prog.op (.load oM (Rect.unit (s := S64x256) ![0, 0] S64x256.size inb_S64x256_S64x256_0_0).toLoadRect (View.loadsAt_vmem h_S64x256)) fun _ =>
  Prog.op (.store oM (Rect.unit (s := S64x256) ![0, 0] S64x256.size inb_S64x256_S64x256_0_0) v Finset.univ (View.stores_vmem_bits_univ h_S64x256 rfl) (.inl rfl)) fun _ => k

/-- The exchange: three copies out, three blocks in, the sum stored, the three copies out waited for. -/
def exchange (c : Dev nD) (a b : FVec F S256x256 .bf16) : Pg F :=
  give c (diag c) a b <| give c (right c) a b <| give c (left c) a b <|
  take (left c) fun l => take (right c) fun r => take (diag c) fun g =>
  putOut (sumOf c a b l r g) <|
  settle (diag c) <| settle (right c) <| settle (left c) <| Prog.ret ⟨⟩

/-- The arrays loaded, the device's factors computed from them, the other three devices waited for, the exchange. -/
def compute (c : Dev nD) : Pg F :=
  Prog.op (.load xM (Rect.unit (s := S256x128) ![0, 0] S256x128.size inb_S256x128_S256x128_0_0).toLoadRect (View.loadsAt_vmem h_S256x128)) fun x =>
  Prog.op (.load gM (Rect.unit (s := S128x8) ![0, 0] S128x8.size inb_S128x8_S128x8_0_0).toLoadRect (View.loadsAt_vmem h_S128x8)) fun g =>
  Prog.op (.load iM (Rect.unit (s := S256x2) ![0, 0] S256x1.size inb_S256x2_S256x1_0_0).toLoadRect (View.loadsAt_vmem h_S256x1)) fun i₀ =>
  Prog.op (.load iM (Rect.unit (s := S256x2) ![0, 1] S256x1.size inb_S256x2_S256x1_0_1).toLoadRect (View.loadsAt_vmem h_S256x1)) fun i₁ =>
  Prog.op (.load wM (Rect.unit (s := S2x128x256) ![0, 0, 0] S1x128x256.size inb_S2x128x256_S1x128x256_0_0_0).toLoadRect (View.loadsAt_vmem h_S1x128x256)) fun w₀ =>
  Prog.op (.load wM (Rect.unit (s := S2x128x256) ![1, 0, 0] S1x128x256.size inb_S2x128x256_S1x128x256_1_0_0).toLoadRect (View.loadsAt_vmem h_S1x128x256)) fun w₁ =>
  Prog.op (.semWait barS ((3 : ℕ) : ℤ)) fun _ =>
  exchange c (lhsOf c x g i₀ i₁) (rhsOf w₀ w₁)

/-- The kernel on device `c`. -/
def plain (c : Dev nD) : Pg F := tell 0 c <| tell 1 c <| tell 2 c <| tell 3 c <| compute c

/-- The kernel's body as printed, at its staging and scratch buffers. -/
abbrev printed : Prog (TpuEff nD τ sig (Elt F) Λ₀ .tc) PUnit.{1} :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3

set_option maxRecDepth 65536 in
set_option maxHeartbeats 4000000 in
/-- The printed kernel reads its device and is then `plain` at that device. -/
theorem printed_eq : (printed (F := F)) = Prog.op .deviceId fun c => plain (F := F) c := by
  unfold printed
  rw [cc0_body_eq_skeleton]
  refine congrArg (Prog.op TpuEff.deviceId) (funext fun c => ?_)
  fin_cases c
  · rfl
  · rfl
  · rfl
  · rfl

end Cert.KernelIdeal.Xchg

end
-- ==== Proof.KernelIdealProto.lean ====
/-
# The protocol of the exchange

A device tells each of the other three that its landing buffer is ready, waits for the three others, starts three copies
and waits for the three blocks that come to it. As rounds of duties on semaphores, one round each: a barrier semaphore has
one duty for every OTHER device, of one unit, which brings that device's slot; a receive semaphore `recvS j` of device `c`
has one duty, device `j`'s, of a block's credit, which brings the slot holding the block that `j` computed for `c`; a send
semaphore `sendS d` has one duty of a block's credit, which brings the sent rows back. A duty is named by a device.
-/
module

public import proofs.«01_k».proof.Proof.KernelIdealGeom

@[expose] public section

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties' algebra beside the pipeline's own. -/
abbrev UB : Type := URounds (GSem nD τ sig) (Dev nD)
/-- Both algebras together. -/
abbrev UU : Type := UR sig nD τ × UB

local notation "𝕄" => MT nD τ sig Unit (Elt F) ℕ UU ℕ

/-- The pipeline's part of the ghost state, and the duties' part. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores as cells -/

/-- Device `c`'s barrier, send and receive semaphores. -/
abbrev barCell (c : Dev nD) : GSem nD τ sig := ((c : Thread nD τ), .reg barS)
abbrev sendCell (c d : Dev nD) : GSem nD τ sig := ((c : Thread nD τ), .dma (sendS d))
abbrev recvCell (c d : Dev nD) : GSem nD τ sig := ((c : Thread nD τ), .dma (recvS d))

/-- The nine semaphores of a device that the exchange uses: its barrier, its four send and its four receive ones. -/
abbrev Port : Type := Unit ⊕ (Dev nD ⊕ Dev nD)
/-- The semaphore that a port names, and the cell of a device's port. -/
abbrev csem : Port → SemLoc sig | .inl _ => .reg barS | .inr (.inl d) => .dma (sendS d) | .inr (.inr d) => .dma (recvS d)
abbrev kcell (cp : Dev nD × Port) : GSem nD τ sig := ((cp.1 : Thread nD τ), csem cp.2)

/-- Different ports are different semaphores. -/
theorem csem_inj : Function.Injective csem := by decide
theorem kcell_inj : Function.Injective kcell := by
  rintro ⟨c, p⟩ ⟨c', p'⟩ h
  have hc : c = c' := congrArg (fun g : GSem nD τ sig => g.1.1) h
  have hp : p = p' := csem_inj (congrArg Prod.snd h)
  rw [hc, hp]

theorem send_ne_bar (d : Dev nD) : (SemLoc.dma (sendS d) : SemLoc sig) ≠ .reg barS := fun h => by cases h
theorem recv_ne_bar (d : Dev nD) : (SemLoc.dma (recvS d) : SemLoc sig) ≠ .reg barS := fun h => by cases h
theorem send_eq_iff (d e : Dev nD) : (SemLoc.dma (sendS d) : SemLoc sig) = .dma (sendS e) ↔ d = e := by revert d e; decide
theorem recv_eq_iff (d e : Dev nD) : (SemLoc.dma (recvS d) : SemLoc sig) = .dma (recvS e) ↔ d = e := by revert d e; decide
theorem send_ne_recv (d e : Dev nD) : (SemLoc.dma (sendS d) : SemLoc sig) ≠ .dma (recvS e) := by revert d e; decide
theorem recv_ne_send (d e : Dev nD) : (SemLoc.dma (recvS d) : SemLoc sig) ≠ .dma (sendS e) := fun h => send_ne_recv e d h.symm

/-- The credit of a block of 64 rows. -/
def N : ℕ := (slotM 0).view.dmaCredit
/-- A copy of a block is worth some credit, the same for a block and for a slot. -/
theorem N_pos : 0 < N := View.dmaCredit_pos _ (by decide)
theorem credit_slot (d : Dev nD) : (slotM d).view.dmaCredit = N := rfl
theorem credit_blk (d : Dev nD) : (blkM d).view.dmaCredit = N := rfl

/-! ## Contents -/

/-- The four arrays of device `c` as the launch stages them. -/
def xAt (c : Dev nD) : (cc0_stg0_0 : Ref sig .tc).ty.Contents (Elt F) :=
  (win0_0.blk (0 : Fin 1)).view.read (Elt F) (m ((c : Thread nD τ).loc main_arg0))
/-- The router's matrix that device `c` reads; -/
def gAt (c : Dev nD) : (cc0_stg1_0 : Ref sig .tc).ty.Contents (Elt F) :=
  (win0_1.blk (0 : Fin 1)).view.read (Elt F) (m ((c : Thread nD τ).loc main_arg1))
/-- the two indices of each row; -/
def iAt (c : Dev nD) : (cc0_stg2_0 : Ref sig .tc).ty.Contents (Elt F) :=
  (win0_2.blk (0 : Fin 1)).view.read (Elt F) (m ((c : Thread nD τ).loc main_arg2))
/-- its two experts' matrices. -/
def wAt (c : Dev nD) : (cc0_stg3_0 : Ref sig .tc).ty.Contents (Elt F) :=
  (win0_3.blk (0 : Fin 1)).view.read (Elt F) (m ((c : Thread nD τ).loc main_arg3))

/-- Device `c`'s scaled rows, from what it loads; -/
def lhsAt (c : Dev nD) : FVec F S256x256 .bf16 :=
  lhsOf c
    (xM.view.readAt (Elt F) (Rect.unit (s := S256x128) ![0, 0] S256x128.size inb_S256x128_S256x128_0_0).toLoadRect (xAt m c))
    (gM.view.readAt (Elt F) (Rect.unit (s := S128x8) ![0, 0] S128x8.size inb_S128x8_S128x8_0_0).toLoadRect (gAt m c))
    (iM.view.readAt (Elt F) (Rect.unit (s := S256x2) ![0, 0] S256x1.size inb_S256x2_S256x1_0_0).toLoadRect (iAt m c))
    (iM.view.readAt (Elt F) (Rect.unit (s := S256x2) ![0, 1] S256x1.size inb_S256x2_S256x1_0_1).toLoadRect (iAt m c))
/-- its experts' matrices. -/
def rhsAt (c : Dev nD) : FVec F S256x256 .bf16 :=
  rhsOf
    (wM.view.readAt (Elt F) (Rect.unit (s := S2x128x256) ![0, 0, 0] S1x128x256.size inb_S2x128x256_S1x128x256_0_0_0).toLoadRect (wAt m c))
    (wM.view.readAt (Elt F) (Rect.unit (s := S2x128x256) ![1, 0, 0] S1x128x256.size inb_S2x128x256_S1x128x256_1_0_0).toLoadRect (wAt m c))

/-- What device `c` sends to device `d`. -/
def chunk (c d : Dev nD) : FVec F S64x256 .bf16 := chunkOf d (lhsAt m c) (rhsAt m c)

/-- What device `c` stores: its own product and the blocks of the three others. -/
def outAt (c : Dev nD) : (cc0_stg4_0 : Ref sig .tc).ty.Contents (Elt F) :=
  addf (addf (addf (prodOf c (lhsAt m c) (rhsAt m c)) (extf .f32 (chunk m (left c) c) bitsLt_bf16_f32))
    (extf .f32 (chunk m (right c) c) bitsLt_bf16_f32)) (extf .f32 (chunk m (diag c) c) bitsLt_bf16_f32)

/-- Slot `j` of device `c`'s landing buffer, at any contents; -/
def slotAny (c j : Dev nD) : sProp 𝕄 := iprop(∃ f, ((c : Thread nD τ).loc cc0_scratch1) ↦[rM.view.setOn (slotRect j).set]{fullShare} f)
/-- The entries of a slot, and of a block, within their buffers. -/
theorem slot_set (j : Dev nD) : (slotM j).view.set = rM.view.setOn (slotRect j).set :=
  (View.set_reshape _ _).trans (View.set_slice _ _)
theorem blk_set (d : Dev nD) : (blkM d).view.set = pM.view.setOn (rowRect d).set := View.set_slice _ _

/-- the same holding `v`; -/
def slotHas (c j : Dev nD) (v : FVec F S64x256 .bf16) : sProp 𝕄 := owns (c : Thread nD τ) (slotM j) fullShare v
/-- the rows that device `c` sends to `d`, at any contents; -/
def blkAny (c d : Dev nD) : sProp 𝕄 := iprop(∃ f, ((c : Thread nD τ).loc cc0_scratch0) ↦[pM.view.setOn (rowRect d).set]{fullShare} f)

instance slotAny_storable (c j : Dev nD) : BI.Storable (upEmb : UEmb _ 𝕄) (slotAny (F := F) c j) := by unfold slotAny; infer_instance
instance slotHas_storable (c j : Dev nD) (v) : BI.Storable (upEmb : UEmb _ 𝕄) (slotHas (F := F) c j v) := by unfold slotHas owns; infer_instance
instance blkAny_storable (c d : Dev nD) : BI.Storable (upEmb : UEmb _ 𝕄) (blkAny (F := F) c d) := by unfold blkAny; infer_instance

/-- A slot with known contents is a slot. -/
theorem slotHas_any (c j : Dev nD) (v : FVec F S64x256 .bf16) : slotHas (F := F) c j v ⊢ slotAny c j := by
  unfold slotHas slotAny owns
  iintro ⟨%f, -, H⟩
  rw [slot_set]
  iexists f; iexact H

/-! ## The schedule -/

/-- What a duty brings. -/
def brings (g : GSem nD τ sig) (d : Dev nD) : sProp 𝕄 :=
  if g.2 = .reg barS then slotAny d g.1.1
  else if g.2 = .dma (sendS d) then blkAny g.1.1 d
  else if g.2 = .dma (recvS d) then slotHas g.1.1 d (chunk m d g.1.1)
  else iprop(emp)

instance brings_storable (g : GSem nD τ sig) (d : Dev nD) : BI.Storable (upEmb : UEmb _ 𝕄) (brings (F := F) m g d) := by
  unfold brings
  (repeat' split) <;> infer_instance

/-- One round: duty `d` on a device's barrier, on its send semaphore to `d` and on its receive semaphore from `d`, for
    `d` another device. -/
def rd : Rounds.Schedule (GSem nD τ sig) (Dev nD) 𝕄 where
  duties g r := Finset.univ.filter fun d =>
    r = 0 ∧ g.1.2 = .tc ∧ d ≠ g.1.1 ∧ (g.2 = .reg barS ∨ g.2 = .dma (sendS d) ∨ g.2 = .dma (recvS d))
  unitless _ := False
  amount g _ _ := if g.2 = .reg barS then 1 else N
  payload g _ d := brings m g d
  amount_pos g _ _ _ := by
    by_cases h : g.2 = .reg barS
    · rw [if_pos h]; exact Nat.one_pos
    · rw [if_neg h]; exact N_pos

instance rd_payload_storable (g : GSem nD τ sig) (r : ℕ) (d : Dev nD) :
    BI.Storable (upEmb : UEmb _ 𝕄) ((rd (F := F) m).payload g r d) := brings_storable m g d

/-- Which duties a cell has in a round. -/
theorem mem_duties {g : GSem nD τ sig} {r : ℕ} {d : Dev nD} : d ∈ (rd (F := F) m).duties g r
    ↔ r = 0 ∧ g.1.2 = .tc ∧ d ≠ g.1.1 ∧ (g.2 = .reg barS ∨ g.2 = .dma (sendS d) ∨ g.2 = .dma (recvS d)) := by
  dsimp only [rd]; rw [Finset.mem_filter]; exact and_iff_right (Finset.mem_univ _)

/-- No cell has duties after round 0. -/
theorem duties_later (g : GSem nD τ sig) : ∀ r, 1 ≤ r → (rd (F := F) m).duties g r = ∅ := fun r hr =>
  Finset.eq_empty_of_forall_notMem fun d hd => by have := ((mem_duties m).mp hd).1; omega

/-- The barrier waits for every other device; -/
theorem duties_bar (c : Dev nD) : (rd (F := F) m).duties (barCell c) 0 = Finset.univ.erase c := by
  ext d; rw [mem_duties, Finset.mem_erase]
  exact ⟨fun h => ⟨h.2.2.1, Finset.mem_univ _⟩, fun h => ⟨rfl, rfl, h.1, .inl rfl⟩⟩

/-- a send semaphore for the one copy that it counts; -/
theorem duties_send (c d : Dev nD) (hd : d ≠ c) : (rd (F := F) m).duties (sendCell c d) 0 = {d} := by
  ext e; rw [mem_duties, Finset.mem_singleton]
  refine ⟨fun h => ?_, fun h => by subst h; exact ⟨rfl, rfl, hd, .inr (.inl rfl)⟩⟩
  rcases h.2.2.2 with h | h | h
  · exact absurd h (send_ne_bar d)
  · exact ((send_eq_iff d e).mp h).symm
  · exact absurd h (send_ne_recv d e)

/-- a receive semaphore for the one block that comes from its device. -/
theorem duties_recv (c d : Dev nD) (hd : d ≠ c) : (rd (F := F) m).duties (recvCell c d) 0 = {d} := by
  ext e; rw [mem_duties, Finset.mem_singleton]
  refine ⟨fun h => ?_, fun h => by subst h; exact ⟨rfl, rfl, hd, .inr (.inr rfl)⟩⟩
  rcases h.2.2.2 with h | h | h
  · exact absurd h (recv_ne_bar d)
  · exact absurd h (recv_ne_send d e)
  · exact ((recv_eq_iff d e).mp h).symm

/-- A device's send and receive semaphores for itself are never used. -/
theorem duties_self (c : Dev nD) (p : Dev nD ⊕ Dev nD) (hp : p = .inl c ∨ p = .inr c) :
    ∀ r, 0 ≤ r → (rd (F := F) m).duties (kcell (c, .inr p)) r = ∅ := fun r _ =>
  Finset.eq_empty_of_forall_notMem fun e he => by
    obtain ⟨-, -, hne, h⟩ := (mem_duties m).mp he
    rcases hp with rfl | rfl
    · rcases h with h | h | h
      · exact absurd h (send_ne_bar c)
      · exact hne ((send_eq_iff c e).mp h).symm
      · exact absurd h (send_ne_recv c e)
    · rcases h with h | h | h
      · exact absurd h (recv_ne_bar c)
      · exact absurd h (recv_ne_send c e)
      · exact hne ((recv_eq_iff c e).mp h).symm

/-- What each duty is worth. -/
theorem amount_bar (c d : Dev nD) : (rd (F := F) m).amount (barCell c) 0 d = 1 := by dsimp only [rd]; exact if_pos rfl
theorem amount_send (c d e : Dev nD) : (rd (F := F) m).amount (sendCell c d) 0 e = N := by dsimp only [rd]; exact if_neg (send_ne_bar d)
theorem amount_recv (c d e : Dev nD) : (rd (F := F) m).amount (recvCell c d) 0 e = N := by dsimp only [rd]; exact if_neg (recv_ne_bar d)

/-- What a round is worth in all: the barrier three units, a copy's semaphore one block. -/
theorem expect_bar (c : Dev nD) : (rd (F := F) m).expect (barCell c) 0 = 3 := by
  unfold Schedule.expect Schedule.amountOf
  rw [duties_bar, Finset.sum_congr rfl fun d _ => amount_bar m c d, Finset.sum_const, Finset.card_erase_of_mem (Finset.mem_univ _), Finset.card_univ]
  rfl
theorem expect_send (c d : Dev nD) (hd : d ≠ c) : (rd (F := F) m).expect (sendCell c d) 0 = N := by
  unfold Schedule.expect Schedule.amountOf; rw [duties_send m c d hd, Finset.sum_singleton, amount_send]
theorem expect_recv (c d : Dev nD) (hd : d ≠ c) : (rd (F := F) m).expect (recvCell c d) 0 = N := by
  unfold Schedule.expect Schedule.amountOf; rw [duties_recv m c d hd, Finset.sum_singleton, amount_recv]

/-- What each duty hands over: a slot to write, the sent rows, the slot with the block that was computed for it. -/
theorem payload_bar (c d : Dev nD) : (rd (F := F) m).payload (barCell c) 0 d = slotAny d c := by
  dsimp only [rd]; unfold brings; exact if_pos rfl
theorem payload_send (c d : Dev nD) : (rd (F := F) m).payload (sendCell c d) 0 d = blkAny c d := by
  dsimp only [rd]; unfold brings; rw [if_neg (send_ne_bar d)]; exact if_pos rfl
theorem payload_recv (c d : Dev nD) : (rd (F := F) m).payload (recvCell c d) 0 d = slotHas c d (chunk m d c) := by
  dsimp only [rd]; unfold brings; rw [if_neg (recv_ne_bar d), if_neg (recv_ne_send d d)]; exact if_pos rfl

/-- The three others' slots, which the barrier's round brings. -/
theorem rest_bar (c : Dev nD) : bigSep ((rd (F := F) m).duties (barCell c) 0 \ ∅) (fun d => (rd (F := F) m).payload (barCell c) 0 d)
    = iprop(slotAny (diag c) c ∗ slotAny (right c) c ∗ slotAny (left c) c) := by
  rw [Finset.sdiff_empty, duties_bar, bigSep_eq_bigSepL_of_eq _ (peers_eq c) (peers_nodup c), bigSepL_cons_cons, bigSepL_cons_cons,
    bigSepL_singleton, payload_bar, payload_bar, payload_bar]; rfl
/-- A send or receive cell's whole round is its one duty's payload. -/
theorem rest_send (c d : Dev nD) (hd : d ≠ c) :
    bigSep ((rd (F := F) m).duties (sendCell c d) 0 \ ∅) (fun e => (rd (F := F) m).payload (sendCell c d) 0 e) = blkAny c d := by
  rw [Finset.sdiff_empty, duties_send m c d hd, bigSep_singleton, payload_send]
theorem rest_recv (c d : Dev nD) (hd : d ≠ c) :
    bigSep ((rd (F := F) m).duties (recvCell c d) 0 \ ∅) (fun e => (rd (F := F) m).payload (recvCell c d) 0 e) = slotHas c d (chunk m d c) := by
  rw [Finset.sdiff_empty, duties_recv m c d hd, bigSep_singleton, payload_recv]

/-! ## A conjunction over the four devices, seen from one -/

/-- A conjunction over all devices, sorted as device `c` sees them. -/
theorem bigSep_seen (c : Dev nD) (Φ : Dev nD → sProp 𝕄) : bigSep Finset.univ Φ = iprop(Φ c ∗ Φ (diag c) ∗ Φ (right c) ∗ Φ (left c)) := by
  rw [bigSep_univ_eq_bigSepL _ (seen_from c) (seen_nodup c), bigSepL_cons_cons, bigSepL_cons_cons, bigSepL_cons_cons, bigSepL_singleton]; rfl

/-- A conjunction over all ports: the barrier, the sends, the receives. -/
theorem bigSep_port (Φ : Port → sProp 𝕄) : bigSep Finset.univ Φ
    = iprop(Φ (.inl ()) ∗ (bigSep Finset.univ fun d => Φ (.inr (.inl d))) ∗ (bigSep Finset.univ fun d => Φ (.inr (.inr d)))) := by
  rw [bigSep_univ_sum, bigSep_univ_sum, bigSep_univ_of_subsingleton ()]; rfl

/-! ## What a device owes -/

/-- What it owes when it waits at its barrier: the three receive credits, the last summand the first copy's. -/
def dues (c : Dev nD) : CellTallies nD τ sig Unit :=
  tallyAt (recvCell (left c) c) () N + tallyAt (recvCell (right c) c) () N + tallyAt (recvCell (diag c) c) () N
/-- What telling device `d` discharges. -/
def bill (d c : Dev nD) : CellTallies nD τ sig Unit := if d = c then 0 else tallyAt (barCell d) () 1
/-- What it owes at launch, the last summand discharged first. -/
def O₀ (c : Dev nD) : CellTallies nD τ sig Unit := dues c + bill 3 c + bill 2 c + bill 1 c + bill 0 c

/-- Only the cells of a TensorCore have a level. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _

/-- Barriers at level 1, receive semaphores at 2, everything else at 0. -/
def lv (g : GSem nD τ sig) (_ : Unit) : ℕ := if g.2 = .reg barS then 1 else if ∃ d, g.2 = .dma (recvS d) then 2 else 0
theorem lv_bar (c : Dev nD) : lv (barCell c) () = 1 := by unfold lv; exact if_pos rfl
theorem lv_recv (c d : Dev nD) : lv (recvCell c d) () = 2 := by unfold lv; rw [if_neg (recv_ne_bar d)]; exact if_pos ⟨d, rfl⟩

/-- Telling a device is owed to that device's barrier only; -/
theorem bill_pos {d c : Dev nD} {g : GSem nD τ sig} {u : Unit} (h : 0 < bill d c g u) : g = barCell d := by
  unfold bill at h
  split at h
  · exact absurd h (Nat.lt_irrefl 0)
  · rw [tallyAt_apply] at h
    by_contra hn
    rw [if_neg (fun h' => hn h'.1)] at h
    exact Nat.lt_irrefl 0 h

/-- a single tally is owed to its own cell only; -/
theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- the copies are owed to receive semaphores only; -/
theorem dues_pos {c : Dev nD} {g : GSem nD τ sig} {u : Unit} (h : 0 < dues c g u) : ∃ d, g = recvCell d c := by
  unfold dues at h
  simp only [Pi.add_apply, Finsupp.add_apply] at h
  rcases (show 0 < (tallyAt (recvCell (left c) c) () N : CellTallies nD τ sig Unit) g u
    ∨ 0 < (tallyAt (recvCell (right c) c) () N : CellTallies nD τ sig Unit) g u ∨ 0 < (tallyAt (recvCell (diag c) c) () N : CellTallies nD τ sig Unit) g u by omega) with h | h | h
  exacts [⟨_, tally_pos h⟩, ⟨_, tally_pos h⟩, ⟨_, tally_pos h⟩]

/-- so all that a device owes is owed to receive semaphores and barriers. -/
theorem O₀_pos {c : Dev nD} {g : GSem nD τ sig} {u : Unit} (h : 0 < O₀ c g u) : (∃ d, g = recvCell d c) ∨ ∃ d, g = barCell d := by
  unfold O₀ at h
  simp only [Pi.add_apply, Finsupp.add_apply] at h
  rcases (show 0 < dues c g u ∨ 0 < bill 3 c g u ∨ 0 < bill 2 c g u ∨ 0 < bill 1 c g u ∨ 0 < bill 0 c g u by omega) with h | h | h | h | h
  exacts [.inl (dues_pos h), .inr ⟨_, bill_pos h⟩, .inr ⟨_, bill_pos h⟩, .inr ⟨_, bill_pos h⟩, .inr ⟨_, bill_pos h⟩]

/-- A staging semaphore's wait is below everything owed. -/
theorem mayWait_stage (c : Dev nD) (q : DmaSem sig) (hq : ∀ d, SemLoc.dma q ≠ .dma (recvS d)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _)
      (fun g u hg => by rcases O₀_pos hg with ⟨d, rfl⟩ | ⟨d, rfl⟩ <;> exact L_tc _ _)
      (fun p hp => by
        rw [Finset.mem_singleton.mp hp]; unfold lv
        rw [if_neg (fun h => by cases h), if_neg (fun ⟨d, h⟩ => hq d h)])
      (fun g u hg => by
        rcases O₀_pos hg with ⟨d, rfl⟩ | ⟨d, rfl⟩
        · rw [lv_recv]; decide
        · rw [lv_bar]; decide)
  · rw [MayWait_zero]; iintro -; iempintro

/-- The barrier's wait is below the receive credits. -/
theorem mayWait_bar (c : Dev nD) : (levAts L lv : sProp 𝕄) ⊢ MayWait (c : Thread nD τ) (.reg barS) () (dues c) :=
  MayOwe.of_cut (L := L) (lev := lv) 1 (fun p hp => by rw [Finset.mem_singleton.mp hp]; exact L_tc _ _)
    (fun g u hg => by obtain ⟨d, rfl⟩ := dues_pos hg; exact L_tc _ _)
    (fun p hp => by rw [Finset.mem_singleton.mp hp]; exact (lv_bar c).le)
    (fun g u hg => by obtain ⟨d, rfl⟩ := dues_pos hg; rw [lv_recv]; decide)

end Cert.KernelIdeal.Xchg

end
-- ==== Proof.KernelIdealSteps.lean ====
/-
# The steps of the exchange

Each of the exchange's five moves — tell a device, give a device its block, take a device's block, settle a copy, store the
result — verified once, at symbolic devices, against the schedule of duties.
-/
module

public import proofs.«01_k».proof.Proof.KernelIdealProto
public import Idealize.ShloMosaic.Lib.Ring

@[expose] public section

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Port → ℕ)

/-- No loop of the kernel needs a variant. -/
abbrev 𝒱₀ : Variants := Variants.none

/-- The weakest precondition of a program of this kernel on device `c`. -/
abbrev run (c : Dev nD) (p : Pg F) (Q : PUnit.{1} → sProp 𝕄) : sProp 𝕄 :=
  wp frame (wpE (defs₀ (F := F)) 𝒱₀ (c : Thread nD τ) none) Set.univ p Q

/-! ## What every device knows -/

/-- The invariants of all cells, and that each is at its round 0 at least. -/
def known : sProp 𝕄 :=
  iprop((bigSep Finset.univ fun cp : Dev nD × Port => cellInv ER (rd (F := F) m) (K cp) (kcell cp))
    ∗ bigSep Finset.univ fun cp : Dev nD × Port => reached ER (kcell cp) 0)

instance known_persistent : BI.Persistent (known (F := F) m K) := by unfold known; infer_instance

/-- Each cell's invariant is known. -/
theorem known_inv (cp : Dev nD × Port) : known (F := F) m K ⊢ cellInv ER (rd (F := F) m) (K cp) (kcell cp) := by
  unfold known
  iintro ⟨H, -⟩
  have h : (bigSep Finset.univ fun cp : Dev nD × Port => cellInv ER (rd (F := F) m) (K cp) (kcell cp)) ⊢ cellInv ER (rd (F := F) m) (K cp) (kcell cp) := bigSep_elim (Finset.mem_univ cp)
  iapply h; iexact H

/-- Each cell is known to have reached round 0. -/
theorem known_reached (cp : Dev nD × Port) : known (F := F) m K ⊢ reached ER (kcell cp) 0 := by
  unfold known
  iintro ⟨-, H⟩
  have h : (bigSep Finset.univ fun cp : Dev nD × Port => (reached ER (kcell cp) 0 : sProp 𝕄)) ⊢ reached ER (kcell cp) 0 := bigSep_elim (Finset.mem_univ cp)
  iapply h; iexact H

/-- Owing nothing. -/
def idle (c : Dev nD) : sProp 𝕄 := iprop(∃ W, owes (c : Thread nD τ) 0 W)

/-! ## Telling a device -/

/-- What telling device `d` hands over: this device's slot `d`; nothing to itself. -/
def gift (c d : Dev nD) : sProp 𝕄 := if d = c then iprop(emp) else slotAny (F := F) c d

/-- Telling device `d`: the device pays its duty at `d`'s barrier with the slot that it hands over. -/
theorem wp_tell (c d : Dev nD) (k : Pg F) (Q : PUnit.{1} → sProp 𝕄) (O : CellTallies nD τ sig Unit) (W : Waits sig Unit) :
    iprop(known m K ∗ owes (c : Thread nD τ) (O + bill d c) W ∗ gift c d ∗ dutyTok ER (barCell d) 0 c)
      ⊢ iprop((owes (c : Thread nD τ) O W -∗ run c k Q) -∗ run c (tell d c k) Q) := by
  unfold tell gift bill
  by_cases h : d = c
  · rw [if_pos h, if_pos h, if_pos h, add_zero]
    iintro ⟨-, HO, -, -⟩ Hk
    iapply Hk; iexact HO
  · rw [if_neg h, if_neg h, if_neg h]
    iintro ⟨#HK, HO, Hg, Ht⟩ Hk
    iapply (Rounds.wp_signal 𝒱₀ ER (rd (F := F) m) (c : Thread nD τ) none (dst := (d : Thread nD τ)) (κ := K (d, .inl ()))
      (d := c) (by rw [duties_bar]; exact Finset.mem_erase.mpr ⟨fun h' => h h'.symm, Finset.mem_univ _⟩) (amount_bar m d c) () O rfl) $$ [HO Hg Ht]
    · isplitr; · iapply (known_inv m K (d, .inl ())); iexact HK
      isplitl [HO]; · iexact HO
      isplitl [Ht]; · iexact Ht
      isplitl [Hg]; · rw [payload_bar]; iexact Hg
      iapply (known_reached m K (d, .inl ())); iexact HK
    iexact Hk

/-! ## Giving a device its block -/

/-- A block just stored reads back as what was stored. -/
theorem blk_write_read (d : Dev nD) (f : (cc0_scratch0 : Ref sig .tc).ty.Contents (Elt F)) (w : FVec F S64x256 .bf16) :
    (blkM d).view.read (Elt F) ((pM.access (rowRect d) : View sig .tc _ _ _).write (Elt F) f w Finset.univ) = w :=
  View.read_write_univ _ _

/-- The store of a block writes within the block. -/
theorem blk_mask (d : Dev nD) : (pM.access (rowRect d) : View sig .tc _ _ _).setOn Finset.univ ⊆ pM.view.setOn (rowRect d).set := by
  rw [View.setOn_univ]; exact subset_of_eq (View.set_slice _ _)

/-- The sent rows pay the send semaphore's duty. -/
theorem pay_send (c d : Dev nD) (f : Buf (Elt F) ((blkM d).view.loc (c : Thread nD τ))) :
    ((blkM d).view.loc (c : Thread nD τ) ↦[(blkM d).view.set]{fullShare} f : sProp 𝕄) ⊢ (rd (F := F) m).payload (sendCell c d) 0 d := by
  rw [payload_send]; unfold blkAny; rw [blk_set]
  iintro H; iexists f; iexact H

/-- The slot in which a block has landed pays the receive semaphore's duty. -/
theorem pay_recv (c d : Dev nD) (fs : Buf (Elt F) ((blkM d).view.loc (c : Thread nD τ))) (fd : Buf (Elt F) ((slotM c).view.loc (d : Thread nD τ)))
    (h : (blkM d).view.read (Elt F) fs = chunk m c d) :
    ((slotM c).view.loc (d : Thread nD τ) ↦[(slotM c).view.set]{fullShare} ((slotM c).view.write (Elt F) fd ((blkM d).view.read (Elt F) fs) Finset.univ) : sProp 𝕄)
      ⊢ (rd (F := F) m).payload (recvCell d c) 0 c := by
  rw [payload_recv]; unfold slotHas owns
  iintro H; iexists ((slotM c).view.write (Elt F) fd ((blkM d).view.read (Elt F) fs) Finset.univ)
  isplitr
  · ipureintro; exact (View.read_write_univ _ _).trans h
  · iexact H

/-- Sending to device `d`: the block is computed and stored, and its copy started into the slot that `d` has handed over. -/
theorem wp_give (c d : Dev nD) (hd : d ≠ c) (k : Pg F) (Q : PUnit.{1} → sProp 𝕄) (O : CellTallies nD τ sig Unit) (W : Waits sig Unit) :
    iprop(known m K ∗ blkAny c d ∗ slotAny d c ∗ owes (c : Thread nD τ) (O + tallyAt (recvCell d c) () N) W
        ∗ dutyTok ER (sendCell c d) 0 d ∗ dutyTok ER (recvCell d c) 0 c)
      ⊢ iprop(((cred (tallyAt (sendCell c d) () N) ∗ owes (c : Thread nD τ) O W) -∗ run c k Q)
          -∗ run c (give c d (lhsAt m c) (rhsAt m c) k) Q) := by
  unfold give blkAny slotAny
  rw [show chunkOf d (lhsAt m c) (rhsAt m c) = chunk m c d from rfl]
  iintro ⟨#HK, ⟨%f, Hb⟩, ⟨%fd, Hs⟩, HO, Hts, Htr⟩ Hk
  iapply (wp_load 𝒱₀ (c : Thread nD τ) none Set.univ (m := pM) (S := pM.view.setOn (rowRect d).set) subset_rfl) $$ Hb; iintro Hb
  iapply (wp_store 𝒱₀ (c : Thread nD τ) none Set.univ (m := pM) (r := rowRect d) (Mk := Finset.univ) (S := pM.view.setOn (rowRect d).set) (blk_mask d)) $$ Hb; iintro Hb
  iapply (Rounds.wp_send_pointsTo 𝒱₀ ER (rd (F := F) m) (c : Thread nD τ) none (c' := (d : Thread nD τ)) (src := blkM d) (dst := slotM c)
    (κ₁ := K (c, .inr (.inl d))) (κ₂ := K (d, .inr (.inr c))) (r₁ := 0) (r₂ := 0) (d₁ := d) (d₂ := c)
    (fs := (pM.access (rowRect d) : View sig .tc _ _ _).write (Elt F) f (chunk m c d) Finset.univ) (fd := fd)
    (by rw [duties_send m c d hd]; exact Finset.mem_singleton_self _) (by rw [duties_recv m d c hd.symm]; exact Finset.mem_singleton_self _)
    () () N rfl (amount_send m c d d) (amount_recv m d c c) O rfl (W := W)
    (pay_send m c d _) (pay_recv m c d _ fd (blk_write_read d f (chunk m c d)))) $$ [Hb Hs HO Hts Htr]
  · isplitr; · iapply (known_inv m K (c, .inr (.inl d))); iexact HK
    isplitr; · iapply (known_inv m K (d, .inr (.inr c))); iexact HK
    isplitl [Hb]; · rw [blk_set]; iexact Hb
    isplitl [Hs]; · rw [slot_set]; iexact Hs
    isplitl [HO]; · iexact HO
    isplitl [Hts]; · iexact Hts
    isplitr; · iapply (known_reached m K (c, .inr (.inl d))); iexact HK
    isplitl [Htr]; · iexact Htr
    iapply (known_reached m K (d, .inr (.inr c))); iexact HK
  iexact Hk

/-! ## Taking a device's block -/

/-- Loading a slot and widening it is widening its contents. -/
theorem wide_slot (j : Dev nD) (f : (cc0_scratch1 : Ref sig .tc).ty.Contents (Elt F)) :
    wide (rM.view.readAt (Elt F) (slotRect j).toLoadRect f) = extf .f32 ((slotM j).view.read (Elt F) f) bitsLt_bf16_f32 := rfl

/-- Receiving from device `j`: after the wait the load yields the block that `j` computed for this device. -/
theorem wp_take (c j : Dev nD) (hj : j ≠ c) (k : Vec F S1x64x256 .bf16 → Pg F) (Q : PUnit.{1} → sProp 𝕄) :
    iprop(known m K ∗ idle c ∗ cred (tallyAt (recvCell c j) () N) ∗ atPos ER (recvCell c j) 0 ∅ 0)
      ⊢ iprop((∀ v, iprop(⌜wide v = extf .f32 (chunk m j c) bitsLt_bf16_f32⌝ ∗ slotAny c j ∗ idle c ∗ atPos ER (recvCell c j) (0 + 1) ∅ 0) -∗ run c (k v) Q)
          -∗ run c (take j k) Q) := by
  unfold take idle
  iintro ⟨#HK, ⟨%W, HO⟩, Hc, Ha⟩ Hk
  iapply (Rounds.wp_wait_rest_token 𝒱₀ ER (rd (F := F) m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv m c j hj]; rfl)) $$ [Hc HO Ha]
  · isplitr; · iapply (known_inv m K (c, .inr (.inr j))); iexact HK
    isplitl [Hc]; · iexact Hc
    isplitl [HO]; · iexact HO
    isplitr; · rw [MayWait_zero]; iempintro
    iexact Ha
  iintro ⟨HO, Ha, -, Hp⟩
  ihave Hp := (Entails.of_eq (rest_recv m c j hj)) $$ Hp
  unfold slotHas owns
  icases Hp with ⟨%f, %hf, Hs⟩
  rw [slot_set]
  iapply (wp_load 𝒱₀ (c : Thread nD τ) none Set.univ (m := rM) (S := rM.view.setOn (slotRect j).set) subset_rfl) $$ Hs; iintro Hs
  iapply Hk
  isplitr
  · ipureintro; rw [wide_slot, hf]
  isplitl [Hs]; · unfold slotAny; iexists f; iexact Hs
  isplitl [HO]; · iexists _; iexact HO
  iexact Ha

/-! ## Settling a copy -/

/-- Waiting for the copy to device `d` to have left brings the sent rows back. -/
theorem wp_settle (c d : Dev nD) (hd : d ≠ c) (k : Pg F) (Q : PUnit.{1} → sProp 𝕄) :
    iprop(known m K ∗ idle c ∗ cred (tallyAt (sendCell c d) () N) ∗ atPos ER (sendCell c d) 0 ∅ 0)
      ⊢ iprop((iprop(blkAny c d ∗ idle c ∗ atPos ER (sendCell c d) (0 + 1) ∅ 0) -∗ run c k Q)
          -∗ run c (settle d k) Q) := by
  unfold settle idle
  iintro ⟨#HK, ⟨%W, HO⟩, Hc, Ha⟩ Hk
  iapply (Rounds.wp_wait_rest_token 𝒱₀ ER (rd (F := F) m) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send m c d hd]; rfl)) $$ [Hc HO Ha]
  · isplitr; · iapply (known_inv m K (c, .inr (.inl d))); iexact HK
    isplitl [Hc]; · iexact Hc
    isplitl [HO]; · iexact HO
    isplitr; · rw [MayWait_zero]; iempintro
    iexact Ha
  iintro ⟨HO, Ha, -, Hp⟩
  ihave Hp := (Entails.of_eq (rest_send m c d hd)) $$ Hp
  iapply Hk
  isplitl [Hp]; · iexact Hp
  isplitl [HO]; · iexists _; iexact HO
  iexact Ha

/-! ## Storing the result -/

theorem hz : (![0, 0] : Fin 2 → Nat) = fun _ => 0 := funext fun a => by fin_cases a <;> rfl

/-- The store of the result replaces the whole output buffer. -/
theorem write_out (f w : (cc0_stg4_0 : Ref sig .tc).ty.Contents (Elt F)) :
    ((oM : Memref sig .tc .vmem S64x256 .f32).access (Rect.unit (s := S64x256) ![0, 0] S64x256.size inb_S64x256_S64x256_0_0) : View sig .tc _ _ _).write (Elt F) f w Finset.univ = w :=
  Memref.write_access_unit_zero_univ (Elt F) cc0_stg4_0 hz _ f w

/-- Storing the result. -/
theorem wp_putOut (c : Dev nD) (v : FVec F S64x256 .f32) (k : Pg F) (Q : PUnit.{1} → sProp 𝕄)
    (f : Buf (Elt F) ((c : Thread nD τ).loc cc0_stg4_0)) :
    (((c : Thread nD τ).loc cc0_stg4_0) ↦{fullShare} f : sProp 𝕄)
      ⊢ iprop(((((c : Thread nD τ).loc cc0_stg4_0) ↦{fullShare} v) -∗ run c k Q) -∗ run c (putOut v k) Q) := by
  unfold putOut
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S64x256) ![0, 0] S64x256.size inb_S64x256_S64x256_0_0)
    (Mk := Finset.univ) (Finset.subset_univ _)) $$ H; iintro H
  rw [write_out]
  iapply Hk; iexact H

/-! ## The end of a semaphore's use -/

/-- A cell with no duties left is closed with its counter at zero. -/
theorem close_cell (c : Dev nD) (p : Port) (R : ℕ) (hR : ∀ r, R ≤ r → (rd (F := F) m).duties (kcell (c, p)) r = ∅) :
    iprop(known m K ∗ atPos ER (kcell (c, p)) R ∅ 0) ⊢ |={Set.univ}=> (semVal (kcell (c, p)) 0 : sProp 𝕄) := by
  iintro ⟨#HK, Ha⟩
  iapply (Rounds.cell_close ER (rd (F := F) m) (Set.mem_univ (K (c, p))) (fun h => h) (R := R) hR)
  isplitr; · iapply (known_inv m K (c, p)); iexact HK
  iexact Ha

end Cert.KernelIdeal.Xchg

end
-- ==== Proof.KernelIdealBody.lean ====
/-
# The body of the exchange

The kernel on a symbolic device, put together from its steps: what a device holds before, what it holds after, and that it
leaves its result in its output's staging buffer.
-/
module

public import proofs.«01_k».proof.Proof.KernelIdealSteps
public import proofs.«01_k».proof.Proof.Gen.KernelIdeal.Points

@[expose] public section

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (K : Dev nD × Port → ℕ)

/-! ## Scratch buffers in blocks -/

/-- The four blocks of rows are disjoint, -/
theorem rows_disjoint (d e : Dev nD) (h : d ≠ e) : Disjoint (rowRect d).set (rowRect e).set :=
  Ring.lead_disjoint (s := S256x256) (NB := 4) 0 64 (fun d => ![64 * d.val, 0]) S64x256.size row_inb (fun _ => rfl) rfl d e h
/-- and are the whole sending buffer. -/
theorem rows_cover : Finset.univ.biUnion (fun d => (rowRect d).set) = Finset.univ :=
  Ring.lead_cover (s := S256x256) (NB := 4) 0 64 (fun d => ![64 * d.val, 0]) S64x256.size row_inb (fun _ => rfl)
    (fun _ a ha => by fin_cases a; exact absurd rfl ha; rfl) rfl (fun a ha => by fin_cases a; exact absurd rfl ha; rfl) rfl
/-- The four slots are disjoint, -/
theorem slots_disjoint (d e : Dev nD) (h : d ≠ e) : Disjoint (slotRect d).set (slotRect e).set :=
  Ring.lead_disjoint (s := S4x64x256) (NB := 4) 0 1 (fun d => ![d.val, 0, 0]) S1x64x256.size slot_inb (fun d => (Nat.one_mul d.val).symm) rfl d e h
/-- and are the whole landing buffer. -/
theorem slots_cover : Finset.univ.biUnion (fun d => (slotRect d).set) = Finset.univ :=
  Ring.lead_cover (s := S4x64x256) (NB := 4) 0 1 (fun d => ![d.val, 0, 0]) S1x64x256.size slot_inb (fun d => (Nat.one_mul d.val).symm)
    (fun _ a ha => by fin_cases a; exact absurd rfl ha; rfl; rfl) rfl (fun a ha => by fin_cases a; exact absurd rfl ha; rfl; rfl) rfl

/-- A part of a whole buffer is that part of its indices. -/
theorem setOn_whole (b : Ref sig .tc) (S : Finset b.ty.Idx) : (Memref.whole b).view.setOn S = S := by
  unfold View.setOn; exact Finset.map_refl

/-- A block's entries at known contents are a block. -/
theorem blk_any (c d : Dev nD) (f : Buf (Elt F) ((c : Thread nD τ).loc cc0_scratch0)) :
    (((c : Thread nD τ).loc cc0_scratch0) ↦[(rowRect d).set]{fullShare} f : sProp 𝕄) ⊢ blkAny c d := by
  unfold blkAny; rw [setOn_whole]
  iintro H; iexists f; iexact H

/-- The sending buffer falls into its four blocks, -/
theorem blk_parts (c : Dev nD) : (iprop(∃ f : Buf (Elt F) ((c : Thread nD τ).loc cc0_scratch0), ((c : Thread nD τ).loc cc0_scratch0) ↦{fullShare} f) : sProp 𝕄)
    ⊢ bigSep Finset.univ fun d => blkAny c d := by
  iintro ⟨%f, H⟩
  ihave H := (Entails.of_eq (Ring.pointsTo_blocks (ℓ := (c : Thread nD τ).loc cc0_scratch0) (fun d => (rowRect d).set) rows_disjoint rows_cover f)) $$ H
  have h : (bigSep Finset.univ fun d : Dev nD => (((c : Thread nD τ).loc cc0_scratch0) ↦[(rowRect d).set]{fullShare} f : sProp 𝕄)) ⊢ bigSep Finset.univ fun d => blkAny c d :=
    bigSep_mono fun d _ => blk_any c d f
  iapply h; iexact H

/-- and the four blocks, whatever they hold, are the sending buffer again. -/
theorem blk_join (c : Dev nD) : (bigSep Finset.univ fun d => blkAny (F := F) c d)
    ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (Val := Elt F) (q := fullShare) (ℓ := (c : Thread nD τ).loc cc0_scratch0)
    (fun d => (rowRect d).set) rows_disjoint rows_cover (fun _ => FloatOps.ofBits .bf16 0)
  refine BIBase.Entails.trans (Entails.of_eq (bigSep_congr fun d _ => ?_)) h
  unfold blkAny; rw [setOn_whole]

/-- A slot's entries at known contents are a slot. -/
theorem slot_any (c d : Dev nD) (f : Buf (Elt F) ((c : Thread nD τ).loc cc0_scratch1)) :
    (((c : Thread nD τ).loc cc0_scratch1) ↦[(slotRect d).set]{fullShare} f : sProp 𝕄) ⊢ slotAny c d := by
  unfold slotAny; rw [setOn_whole]
  iintro H; iexists f; iexact H

/-- The landing buffer falls into its four slots, -/
theorem slot_parts (c : Dev nD) : (iprop(∃ f : Buf (Elt F) ((c : Thread nD τ).loc cc0_scratch1), ((c : Thread nD τ).loc cc0_scratch1) ↦{fullShare} f) : sProp 𝕄)
    ⊢ bigSep Finset.univ fun d => slotAny c d := by
  iintro ⟨%f, H⟩
  ihave H := (Entails.of_eq (Ring.pointsTo_blocks (ℓ := (c : Thread nD τ).loc cc0_scratch1) (fun d => (slotRect d).set) slots_disjoint slots_cover f)) $$ H
  have h : (bigSep Finset.univ fun d : Dev nD => (((c : Thread nD τ).loc cc0_scratch1) ↦[(slotRect d).set]{fullShare} f : sProp 𝕄)) ⊢ bigSep Finset.univ fun d => slotAny c d :=
    bigSep_mono fun d _ => slot_any c d f
  iapply h; iexact H

/-- and the four slots, whatever they hold, are the landing buffer again. -/
theorem slot_join (c : Dev nD) : (bigSep Finset.univ fun d => slotAny (F := F) c d)
    ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Name := ℕ) (U := UU) (Lvl := ℕ) (Val := Elt F) (q := fullShare) (ℓ := (c : Thread nD τ).loc cc0_scratch1)
    (fun d => (slotRect d).set) slots_disjoint slots_cover (fun _ => FloatOps.ofBits .bf16 0)
  refine BIBase.Entails.trans (Entails.of_eq (bigSep_congr fun d _ => ?_)) h
  unfold slotAny; rw [setOn_whole]

/-- A device's slots: its own one, and the gifts. -/
theorem slot_gifts (c : Dev nD) : (bigSep Finset.univ fun d => slotAny (F := F) c d) ⊢ iprop(slotAny c c ∗ bigSep Finset.univ fun d => gift c d) := by
  rw [bigSep_univ_at _ c, bigSep_univ_at (fun d => gift c d) c]
  have h : (bigSep (Finset.univ.erase c) fun d => slotAny (F := F) c d) = bigSep (Finset.univ.erase c) fun d => gift c d :=
    bigSep_congr fun d hd => by unfold gift; rw [if_neg (Finset.ne_of_mem_erase hd)]
  rw [h]
  iintro ⟨H, HH⟩
  isplitl [H]; · iexact H
  isplitr; · unfold gift; rw [if_pos rfl]; iempintro
  iexact HH

/-! ## The exchange -/

/-- What device `c` holds for its dealings with device `d`; -/
def hand (c d : Dev nD) : sProp 𝕄 :=
  iprop(blkAny c d ∗ dutyTok ER (sendCell c d) 0 d ∗ dutyTok ER (recvCell d c) 0 c ∗ cred (tallyAt (recvCell c d) () N)
    ∗ atPos ER (sendCell c d) 0 ∅ 0 ∗ atPos ER (recvCell c d) 0 ∅ 0)
/-- and after them. -/
def dealt (c d : Dev nD) : sProp 𝕄 :=
  iprop(blkAny c d ∗ slotAny c d ∗ atPos ER (sendCell c d) (0 + 1) ∅ 0 ∗ atPos ER (recvCell c d) (0 + 1) ∅ 0)

/-- The output buffer holding `f`. -/
abbrev outPts (c : Dev nD) (f : Buf (Elt F) ((c : Thread nD τ).loc cc0_stg4_0)) : sProp 𝕄 := ((c : Thread nD τ).loc cc0_stg4_0) ↦{fullShare} f

/-- The program that is done. -/
theorem run_ret (c : Dev nD) (Q : PUnit.{1} → sProp 𝕄) : (|={Set.univ}=> Q ⟨⟩) ⊢ run (F := F) c (Prog.ret ⟨⟩) Q := by
  unfold run; rw [wp_ret]

/-- The exchange: from a slot of each other device, the output buffer ends holding the sum, and all that was lent is back. -/
theorem wp_exchange (c : Dev nD) (Q : PUnit.{1} → sProp 𝕄) (W : Waits sig Unit) (f : Buf (Elt F) ((c : Thread nD τ).loc cc0_stg4_0)) :
    iprop(known m K ∗ owes (c : Thread nD τ) (dues c) W ∗ (slotAny (diag c) c ∗ slotAny (right c) c ∗ slotAny (left c) c)
        ∗ (hand c (diag c) ∗ hand c (right c) ∗ hand c (left c)) ∗ outPts c f)
      ⊢ iprop((iprop(idle c ∗ (dealt c (diag c) ∗ dealt c (right c) ∗ dealt c (left c)) ∗ outPts c (outAt m c)) -∗ |={Set.univ}=> Q ⟨⟩)
          -∗ run c (exchange c (lhsAt m c) (rhsAt m c)) Q) := by
  unfold exchange hand dues
  rw [← zero_add (tallyAt (recvCell (left c) c) () N)]
  iintro ⟨#HK, HO, ⟨Hsd, Hsr, Hsl⟩, ⟨⟨Hbd, Htd, Hud, Hcd, Had, Hvd⟩, ⟨Hbr, Htr, Hur, Hcr, Har, Hvr⟩, ⟨Hbl, Htl, Hul, Hcl, Hal, Hvl⟩⟩, Hout⟩ Hk
  iapply (wp_give m K c (diag c) (diag_ne c) _ Q _ W) $$ [HO Hsd Hbd Htd Hud]
  · isplitr; · iexact HK
    isplitl [Hbd]; · iexact Hbd
    isplitl [Hsd]; · iexact Hsd
    isplitl [HO]; · iexact HO
    isplitl [Htd] <;> iassumption
  iintro ⟨Hxd, HO⟩
  iapply (wp_give m K c (right c) (right_ne c) _ Q _ W) $$ [HO Hsr Hbr Htr Hur]
  · isplitr; · iexact HK
    isplitl [Hbr]; · iexact Hbr
    isplitl [Hsr]; · iexact Hsr
    isplitl [HO]; · iexact HO
    isplitl [Htr] <;> iassumption
  iintro ⟨Hxr, HO⟩
  iapply (wp_give m K c (left c) (left_ne c) _ Q _ W) $$ [HO Hsl Hbl Htl Hul]
  · isplitr; · iexact HK
    isplitl [Hbl]; · iexact Hbl
    isplitl [Hsl]; · iexact Hsl
    isplitl [HO]; · iexact HO
    isplitl [Htl] <;> iassumption
  iintro ⟨Hxl, HO⟩
  iapply (wp_take m K c (left c) (left_ne c) _ Q) $$ [HO Hcl Hvl]
  · isplitr; · iexact HK
    isplitl [HO]; · unfold idle; iexists W; iexact HO
    isplitl [Hcl] <;> iassumption
  iintro %l ⟨%hl, Hsl, HO, Hvl⟩
  iapply (wp_take m K c (right c) (right_ne c) _ Q) $$ [HO Hcr Hvr]
  · isplitr; · iexact HK
    isplitl [HO]; · iexact HO
    isplitl [Hcr] <;> iassumption
  iintro %r ⟨%hr, Hsr, HO, Hvr⟩
  iapply (wp_take m K c (diag c) (diag_ne c) _ Q) $$ [HO Hcd Hvd]
  · isplitr; · iexact HK
    isplitl [HO]; · iexact HO
    isplitl [Hcd] <;> iassumption
  iintro %g ⟨%hg, Hsd, HO, Hvd⟩
  rw [show sumOf c (lhsAt m c) (rhsAt m c) l r g = outAt m c by unfold sumOf outAt; rw [hl, hr, hg]]
  iapply (wp_putOut c (outAt m c) _ Q f) $$ [Hout]
  · iexact Hout
  iintro Hout
  iapply (wp_settle m K c (diag c) (diag_ne c) _ Q) $$ [HO Hxd Had]
  · isplitr; · iexact HK
    isplitl [HO]; · iexact HO
    isplitl [Hxd] <;> iassumption
  iintro ⟨Hbd, HO, Had⟩
  iapply (wp_settle m K c (right c) (right_ne c) _ Q) $$ [HO Hxr Har]
  · isplitr; · iexact HK
    isplitl [HO]; · iexact HO
    isplitl [Hxr] <;> iassumption
  iintro ⟨Hbr, HO, Har⟩
  iapply (wp_settle m K c (left c) (left_ne c) _ Q) $$ [HO Hxl Hal]
  · isplitr; · iexact HK
    isplitl [HO]; · iexact HO
    isplitl [Hxl] <;> iassumption
  iintro ⟨Hbl, HO, Hal⟩
  iapply (run_ret c Q)
  iapply Hk
  unfold dealt
  isplitl [HO]; · iexact HO
  isplitr [Hout]
  · isplitl [Hbd Hsd Had Hvd]
    · isplitl [Hbd]; · iexact Hbd
      isplitl [Hsd]; · iexact Hsd
      isplitl [Had] <;> iassumption
    isplitl [Hbr Hsr Har Hvr]
    · isplitl [Hbr]; · iexact Hbr
      isplitl [Hsr]; · iexact Hsr
      isplitl [Har] <;> iassumption
    isplitl [Hbl]; · iexact Hbl
    isplitl [Hsl]; · iexact Hsl
    isplitl [Hal] <;> iassumption
  iexact Hout

/-! ## The whole body -/

/-- The four staged inputs of device `c`. -/
def inputs (c : Dev nD) : sProp 𝕄 :=
  iprop((((c : Thread nD τ).loc cc0_stg0_0) ↦{fullShare} xAt m c) ∗ (((c : Thread nD τ).loc cc0_stg1_0) ↦{fullShare} gAt m c)
    ∗ (((c : Thread nD τ).loc cc0_stg2_0) ↦{fullShare} iAt m c) ∗ (((c : Thread nD τ).loc cc0_stg3_0) ↦{fullShare} wAt m c))

/-- The kernel after it has told the others: loads, the barrier, the exchange. -/
theorem wp_compute (c : Dev nD) (Q : PUnit.{1} → sProp 𝕄) (W : Waits sig Unit) (f : Buf (Elt F) ((c : Thread nD τ).loc cc0_stg4_0)) :
    iprop(known m K ∗ levAts L lv ∗ inputs m c ∗ owes (c : Thread nD τ) (dues c) W ∗ cred (tallyAt (barCell c) () 3) ∗ atPos ER (barCell c) 0 ∅ 0
        ∗ (hand c (diag c) ∗ hand c (right c) ∗ hand c (left c)) ∗ outPts c f)
      ⊢ iprop((iprop(inputs m c ∗ atPos ER (barCell c) (0 + 1) ∅ 0 ∗ idle c ∗ (dealt c (diag c) ∗ dealt c (right c) ∗ dealt c (left c)) ∗ outPts c (outAt m c)) -∗ |={Set.univ}=> Q ⟨⟩)
          -∗ run c (compute c) Q) := by
  unfold compute inputs
  iintro ⟨#HK, #Hlev, ⟨Hx, Hg, Hi, Hw⟩, HO, Hc, Ha, Hh, Hout⟩ Hk
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (Rounds.wp_wait_rest_token 𝒱₀ ER (rd (F := F) m) (c : Thread nD τ) none (κ := K (c, .inl ()))
      (wpE_semWait_eq 𝒱₀ (c : Thread nD τ) none Set.univ) (Set.mem_univ _) () (O := dues c) (W := W) (R := 0) (m := 0) (T := ∅)
      (by rw [expect_bar])) $$ [HO Hc Ha]
  · isplitr; · iapply (known_inv m K (c, .inl ())); iexact HK
    isplitl [Hc]; · iexact Hc
    isplitl [HO]; · iexact HO
    isplitr; · iapply (mayWait_bar c); iexact Hlev
    iexact Ha
  iintro ⟨HO, Ha, -, Hp⟩
  ihave Hp := (Entails.of_eq (rest_bar m c)) $$ Hp
  iapply (wp_exchange m K c Q _ f) $$ [HO Hp Hh Hout]
  · isplitr; · iexact HK
    isplitl [HO]; · iexact HO
    isplitl [Hp]; · iexact Hp
    isplitl [Hh] <;> iassumption
  iintro ⟨HO, Hd, Hout⟩
  iapply Hk
  isplitl [Hx Hg Hi Hw]
  · isplitl [Hx]; · iexact Hx
    isplitl [Hg]; · iexact Hg
    isplitl [Hi] <;> iassumption
  isplitl [Ha]; · iexact Ha
  isplitl [HO]; · iexact HO
  isplitl [Hd] <;> iassumption

/-- A conjunction over the four devices, by number. -/
theorem bigSep_dev (Φ : Dev nD → sProp 𝕄) : bigSep Finset.univ Φ = iprop(Φ 0 ∗ Φ 1 ∗ Φ 2 ∗ Φ 3) := by
  rw [bigSep_univ_eq_bigSepL [(0 : Dev nD), 1, 2, 3] (by decide) (by decide), bigSepL_cons_cons, bigSepL_cons_cons, bigSepL_cons_cons, bigSepL_singleton]; rfl

/-- The whole kernel on device `c`: the output buffer ends holding `outAt`. -/
theorem wp_plain (c : Dev nD) (Q : PUnit.{1} → sProp 𝕄) (W : Waits sig Unit) (f : Buf (Elt F) ((c : Thread nD τ).loc cc0_stg4_0)) :
    iprop(known m K ∗ levAts L lv ∗ inputs m c ∗ owes (c : Thread nD τ) (O₀ c) W
        ∗ (bigSep Finset.univ fun d => gift c d) ∗ (bigSep Finset.univ fun d => dutyTok ER (barCell d) 0 c)
        ∗ cred (tallyAt (barCell c) () 3) ∗ atPos ER (barCell c) 0 ∅ 0
        ∗ (hand c (diag c) ∗ hand c (right c) ∗ hand c (left c)) ∗ outPts c f)
      ⊢ iprop((iprop(inputs m c ∗ atPos ER (barCell c) (0 + 1) ∅ 0 ∗ idle c ∗ (dealt c (diag c) ∗ dealt c (right c) ∗ dealt c (left c)) ∗ outPts c (outAt m c)) -∗ |={Set.univ}=> Q ⟨⟩)
          -∗ run c (plain c) Q) := by
  unfold plain O₀
  rw [bigSep_dev, bigSep_dev]
  iintro ⟨#HK, #Hlev, Hin, HO, ⟨Hg0, Hg1, Hg2, Hg3⟩, ⟨Ht0, Ht1, Ht2, Ht3⟩, Hc, Ha, Hh, Hout⟩ Hk
  iapply (wp_tell m K c 0 _ Q _ W) $$ [HO Hg0 Ht0]
  · isplitr; · iexact HK
    isplitl [HO]; · iexact HO
    isplitl [Hg0] <;> iassumption
  iintro HO
  iapply (wp_tell m K c 1 _ Q _ W) $$ [HO Hg1 Ht1]
  · isplitr; · iexact HK
    isplitl [HO]; · iexact HO
    isplitl [Hg1] <;> iassumption
  iintro HO
  iapply (wp_tell m K c 2 _ Q _ W) $$ [HO Hg2 Ht2]
  · isplitr; · iexact HK
    isplitl [HO]; · iexact HO
    isplitl [Hg2] <;> iassumption
  iintro HO
  iapply (wp_tell m K c 3 _ Q _ W) $$ [HO Hg3 Ht3]
  · isplitr; · iexact HK
    isplitl [HO]; · iexact HO
    isplitl [Hg3] <;> iassumption
  iintro HO
  iapply (wp_compute m K c Q W f) $$ [HO Hin Hc Ha Hh Hout]
  · isplitr; · iexact HK
    isplitr; · iexact Hlev
    isplitl [Hin]; · iexact Hin
    isplitl [HO]; · iexact HO
    isplitl [Hc]; · iexact Hc
    isplitl [Ha]; · iexact Ha
    isplitl [Hh] <;> iassumption
  iexact Hk

end Cert.KernelIdeal.Xchg

end
-- ==== Proof.KernelIdealPoint.lean ====
/-
# The exchange as a body of the launch

What a device holds when the kernel is entered and when it is left, and the launch's obligation on the body between them.
-/
module

public import proofs.«01_k».proof.Proof.KernelIdealBody

@[expose] public section

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-- Device `c`'s share of the ghost state: its place on its nine semaphores and the duties that it pays. -/
def mine (c : Dev nD) : sProp 𝕄 :=
  iprop((bigSep Finset.univ fun p : Port => atPos ER (kcell (c, p)) 0 ∅ 0)
    ∗ (bigSep Finset.univ fun d : Dev nD => dutyTok ER (barCell d) 0 c)
    ∗ (bigSep Finset.univ fun d : Dev nD => dutyTok ER (sendCell c d) 0 d)
    ∗ (bigSep Finset.univ fun d : Dev nD => dutyTok ER (recvCell d c) 0 c))

/-- The credit that the launch gives it. -/
def credits (c : Dev nD) : sProp 𝕄 :=
  iprop(cred (tallyAt (barCell c) () 3) ∗ cred (tallyAt (recvCell c (diag c)) () N) ∗ cred (tallyAt (recvCell c (right c)) () N)
    ∗ cred (tallyAt (recvCell c (left c)) () N))

/-- What a device has at the launch. -/
def start (c : Dev nD) : sProp 𝕄 := iprop((∃ K, known m K ∗ mine c) ∗ credits c ∗ levAts L lv)

/-- A scratch buffer at any contents. -/
abbrev anyPts (c : Dev nD) (b : Ref sig .tc) : sProp 𝕄 := iprop(∃ f : Buf (Elt F) ((c : Thread nD τ).loc b), ((c : Thread nD τ).loc b) ↦{fullShare} f)

/-- What it has when the kernel is entered, with its scratch buffers, -/
def Φ₀ (c : Dev nD) : sProp 𝕄 := iprop(start m c ∗ anyPts c cc0_scratch0 ∗ anyPts c cc0_scratch1)
/-- and when it is left: the scratch buffers, and every semaphore at zero. -/
def Φ₁ (c : Dev nD) : sProp 𝕄 := iprop(anyPts c cc0_scratch0 ∗ anyPts c cc0_scratch1 ∗ bigSep Finset.univ fun p : Port => semVal (kcell (c, p)) 0)

/-- The launch's data: what each window holds before and after the one point, and what is owed. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => gAt m c
    | ⟨2, _⟩ => iAt m c
    | ⟨3, _⟩ => wAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- To own a whole buffer's view at `X` is to hold the buffer at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Entry: everything sorted by the device that it concerns. -/
theorem enter (c : Dev nD) (K : Dev nD × Port → ℕ) : iprop(mine (F := F) c ∗ credits c ∗ anyPts c cc0_scratch0 ∗ anyPts c cc0_scratch1)
    ⊢ iprop(((bigSep Finset.univ fun d => gift c d) ∗ (bigSep Finset.univ fun d => dutyTok ER (barCell d) 0 c)
        ∗ cred (tallyAt (barCell c) () 3) ∗ atPos ER (barCell c) 0 ∅ 0 ∗ (hand c (diag c) ∗ hand c (right c) ∗ hand c (left c)))
      ∗ blkAny c c ∗ slotAny c c ∗ atPos ER (sendCell c c) 0 ∅ 0 ∗ atPos ER (recvCell c c) 0 ∅ 0) := by
  unfold mine credits hand
  rw [bigSep_port, bigSep_seen c fun d => atPos ER (kcell (c, .inr (.inl d))) 0 ∅ 0, bigSep_seen c fun d => atPos ER (kcell (c, .inr (.inr d))) 0 ∅ 0,
    bigSep_seen c fun d => dutyTok ER (sendCell c d) 0 d, bigSep_seen c fun d => dutyTok ER (recvCell d c) 0 c]
  iintro ⟨⟨⟨HaB, ⟨HaS, HaSd, HaSr, HaSl⟩, ⟨HaV, HaVd, HaVr, HaVl⟩⟩, HtB, ⟨-, HtSd, HtSr, HtSl⟩, ⟨-, HtVd, HtVr, HtVl⟩⟩, ⟨HcB, Hcd, Hcr, Hcl⟩, H0, H1⟩
  ihave H0 := (blk_parts c) $$ H0
  ihave H0 := (Entails.of_eq (bigSep_seen c fun d => blkAny c d)) $$ H0
  icases H0 with ⟨Hbc, Hbd, Hbr, Hbl⟩
  ihave H1 := (slot_parts c) $$ H1
  ihave H1 := (slot_gifts c) $$ H1
  icases H1 with ⟨Hsc, Hg⟩
  isplitr [Hbc Hsc HaS HaV]
  · isplitl [Hg]; · iexact Hg
    isplitl [HtB]; · iexact HtB
    isplitl [HcB]; · iexact HcB
    isplitl [HaB]; · iexact HaB
    isplitl [Hbd HtSd HtVd Hcd HaSd HaVd]
    · isplitl [Hbd]; · iexact Hbd
      isplitl [HtSd]; · iexact HtSd
      isplitl [HtVd]; · iexact HtVd
      isplitl [Hcd]; · iexact Hcd
      isplitl [HaSd]; · iexact HaSd
      iexact HaVd
    isplitl [Hbr HtSr HtVr Hcr HaSr HaVr]
    · isplitl [Hbr]; · iexact Hbr
      isplitl [HtSr]; · iexact HtSr
      isplitl [HtVr]; · iexact HtVr
      isplitl [Hcr]; · iexact Hcr
      isplitl [HaSr]; · iexact HaSr
      iexact HaVr
    isplitl [Hbl]; · iexact Hbl
    isplitl [HtSl]; · iexact HtSl
    isplitl [HtVl]; · iexact HtVl
    isplitl [Hcl]; · iexact Hcl
    isplitl [HaSl]; · iexact HaSl
    iexact HaVl
  isplitl [Hbc]; · iexact Hbc
  isplitl [Hsc]; · iexact Hsc
  isplitl [HaS]; · iexact HaS
  iexact HaV

/-- The semaphores of a dealing closed, its buffers kept. -/
theorem close_dealt (c d : Dev nD) (K : Dev nD × Port → ℕ) : iprop(known m K ∗ dealt (F := F) c d)
    ⊢ |={Set.univ}=> (iprop(blkAny c d ∗ slotAny c d ∗ semVal (kcell (c, .inr (.inl d))) 0 ∗ semVal (kcell (c, .inr (.inr d))) 0) : sProp 𝕄) := by
  unfold dealt
  iintro ⟨#HK, Hb, Hs, HaS, HaV⟩
  imod (close_cell m K c (.inr (.inl d)) (0 + 1) (duties_later m _)) $$ [HaS] with HzS
  · isplitr; · iexact HK
    iexact HaS
  imod (close_cell m K c (.inr (.inr d)) (0 + 1) (duties_later m _)) $$ [HaV] with HzV
  · isplitr; · iexact HK
    iexact HaV
  imodintro
  isplitl [Hb]; · iexact Hb
  isplitl [Hs]; · iexact Hs
  isplitl [HzS] <;> iassumption

/-- Exit: the buffers whole again, the nine semaphores at zero. -/
theorem leave (c : Dev nD) (K : Dev nD × Port → ℕ) :
    iprop(known m K ∗ atPos ER (barCell c) (0 + 1) ∅ 0 ∗ (dealt c (diag c) ∗ dealt c (right c) ∗ dealt c (left c))
        ∗ blkAny c c ∗ slotAny c c ∗ atPos ER (sendCell c c) 0 ∅ 0 ∗ atPos ER (recvCell c c) 0 ∅ 0)
      ⊢ |={Set.univ}=> Φ₁ (F := F) c := by
  iintro ⟨#HK, HaB, ⟨Hd, Hr, Hl⟩, Hbc, Hsc, HaS, HaV⟩
  imod (close_cell m K c (.inl ()) (0 + 1) (duties_later m _)) $$ [HaB] with HzB
  · isplitr; · iexact HK
    iexact HaB
  imod (close_cell m K c (.inr (.inl c)) 0 (duties_self m c (.inl c) (.inl rfl))) $$ [HaS] with HzS
  · isplitr; · iexact HK
    iexact HaS
  imod (close_cell m K c (.inr (.inr c)) 0 (duties_self m c (.inr c) (.inr rfl))) $$ [HaV] with HzV
  · isplitr; · iexact HK
    iexact HaV
  imod (close_dealt m c (diag c) K) $$ [Hd] with ⟨Hbd, Hsd, HzSd, HzVd⟩
  · isplitr; · iexact HK
    iexact Hd
  imod (close_dealt m c (right c) K) $$ [Hr] with ⟨Hbr, Hsr, HzSr, HzVr⟩
  · isplitr; · iexact HK
    iexact Hr
  imod (close_dealt m c (left c) K) $$ [Hl] with ⟨Hbl, Hsl, HzSl, HzVl⟩
  · isplitr; · iexact HK
    iexact Hl
  imodintro
  unfold Φ₁
  rw [bigSep_port, bigSep_seen c fun d => semVal (kcell (c, .inr (.inl d))) 0, bigSep_seen c fun d => semVal (kcell (c, .inr (.inr d))) 0]
  isplitl [Hbc Hbd Hbr Hbl]
  · iapply (blk_join c); rw [bigSep_seen c fun d => blkAny c d]
    isplitl [Hbc]; · iexact Hbc
    isplitl [Hbd]; · iexact Hbd
    isplitl [Hbr] <;> iassumption
  isplitl [Hsc Hsd Hsr Hsl]
  · iapply (slot_join c); rw [bigSep_seen c fun d => slotAny c d]
    isplitl [Hsc]; · iexact Hsc
    isplitl [Hsd]; · iexact Hsd
    isplitl [Hsr] <;> iassumption
  isplitl [HzB]; · iexact HzB
  isplitl [HzS HzSd HzSr HzSl]
  · isplitl [HzS]; · iexact HzS
    isplitl [HzSd]; · iexact HzSd
    isplitl [HzSr] <;> iassumption
  isplitl [HzV]; · iexact HzV
  isplitl [HzVd]; · iexact HzVd
  isplitl [HzVr] <;> iassumption

/-- The obligation on the body, before -/
def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

/-- and after. -/
def bodyPost (c : Dev nD) : sProp 𝕄 :=
  iprop(Φ₁ c ∗ (dats m 0 c).owesAt () t0_0.succ ∗ stg c cc0_stg0_0 (xAt m c) ∗ stg c cc0_stg1_0 (gAt m c) ∗ stg c cc0_stg2_0 (iAt m c)
    ∗ stg c cc0_stg3_0 (wAt m c) ∗ stg c cc0_stg4_0 (outAt m c))

/-- A staging buffer at known contents. -/
theorem stg_intro (c : Dev nD) (b : Ref sig .tc) (X : b.ty.Contents (Elt F)) : (((c : Thread nD τ).loc b) ↦{fullShare} X : sProp 𝕄) ⊢ stg c b X := by
  iintro H; iexists X
  isplitr; · (ipureintro; rfl)
  iexact H

/-- The printed body, from entry to exit. -/
theorem sound (c : Dev nD) : bodyPre m c ⊢ run c (printed (F := F)) (fun _ => bodyPost m c) := by
  rw [printed_eq]
  unfold run
  simp only [wp_deviceId]
  unfold bodyPre Φ₀ start
  iintro ⟨⟨⟨⟨%K, #HK, Hm⟩, Hcr, #Hlev⟩, H0, H1⟩, Ho, ⟨%d0, %f0, %h0, Hx⟩, ⟨%d1, %f1, %h1, Hg⟩, ⟨%d2, %f2, %h2, Hi⟩, ⟨%d3, %f3, %h3, Hw⟩, ⟨%d4, %f4, -, Hout⟩⟩
  have h0 : f0 = xAt m c := by rw [h0]; unfold Dat.before; rw [if_pos (fetch0_0 t0_0)]; rfl
  have h1 : f1 = gAt m c := by rw [h1]; unfold Dat.before; rw [if_pos (fetch0_1 t0_0)]; rfl
  have h2 : f2 = iAt m c := by rw [h2]; unfold Dat.before; rw [if_pos (fetch0_2 t0_0)]; rfl
  have h3 : f3 = wAt m c := by rw [h3]; unfold Dat.before; rw [if_pos (fetch0_3 t0_0)]; rfl
  subst h0; subst h1; subst h2; subst h3
  unfold Dat.owesAt Pipeline.owesWithin
  icases Ho with ⟨%W, %hW, HO⟩
  rw [show (dats m 0 c).owed t0_0.castSucc = O₀ c from rfl]
  ihave HE := (enter c K) $$ [Hm Hcr H0 H1]
  · isplitl [Hm]; · iexact Hm
    isplitl [Hcr]; · iexact Hcr
    isplitl [H0] <;> iassumption
  icases HE with ⟨⟨Hgift, HtB, HcB, HaB, Hh⟩, Hkeep⟩
  iapply (wp_plain m K c _ W f4) $$ [Hx Hg Hi Hw HO Hgift HtB HcB HaB Hh Hout]
  · isplitr; · iexact HK
    isplitr; · iexact Hlev
    isplitl [Hx Hg Hi Hw]
    · unfold inputs
      isplitl [Hx]; · iexact Hx
      isplitl [Hg]; · iexact Hg
      isplitl [Hi] <;> iassumption
    isplitl [HO]; · iexact HO
    isplitl [Hgift]; · iexact Hgift
    isplitl [HtB]; · iexact HtB
    isplitl [HcB]; · iexact HcB
    isplitl [HaB]; · iexact HaB
    isplitl [Hh] <;> iassumption
  iintro ⟨Hin, HaB, HO, Hd, Hout⟩
  unfold inputs
  icases Hin with ⟨Hx, Hg, Hi, Hw⟩
  imod (leave m c K) $$ [HaB Hd Hkeep] with HΦ
  · isplitr; · iexact HK
    isplitl [HaB]; · iexact HaB
    isplitl [Hd] <;> iassumption
  imodintro
  unfold bodyPost Dat.owesAt Pipeline.owesWithin idle
  rw [show (dats m 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hx]; · iapply (stg_intro c cc0_stg0_0); iexact Hx
  isplitl [Hg]; · iapply (stg_intro c cc0_stg1_0); iexact Hg
  isplitl [Hi]; · iapply (stg_intro c cc0_stg2_0); iexact Hi
  isplitl [Hw]; · iapply (stg_intro c cc0_stg3_0); iexact Hw
  iapply (stg_intro c cc0_stg4_0); iexact Hout

/-- The launch's obligation on the body. -/
theorem body_obligation (c : Dev nD) : BodyObligation (dats (F := F) m 0 c) (defs₀ (F := F)) 𝒱₀ () Set.univ := fun t => by
  rw [fin_N0 t, bigSep_W0, bigSep_W0]
  simp only [owns_whole_eq]
  exact sound m c

end Cert.KernelIdeal.Xchg

end
-- ==== Proof.KernelIdealRun.lean ====
/-
# The run of the four kernels

The launch's set-up — the semaphores of all devices turned into cells, the duties dealt to the devices that pay them, the
launch's credit — and the run: every execution ends, with each device's arrays at the contents named and all semaphores at
zero.
-/
module

public import proofs.«01_k».proof.Proof.KernelIdealPoint
public import Idealize.ShloMosaic.Lib.Pipeline.CollectiveSegs

@[expose] public section

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial state: any memory, counters at zero. -/
def s₀ : MemSt nD τ sig (Elt F) := ⟨m, fun _ => 0, ρ⟩

/-- The kernel's own scoped semaphores: the send and the receive ones. -/
abbrev osem : Dev nD ⊕ Dev nD → SemLoc sig := fun p => csem (.inr p)

/-- They are scoped, distinct, and none of the pipeline's. -/
theorem ownSemFacts : Pipeline.OwnSemFacts cfg0.spec osem := by decide

/-- Each window is held whole. -/
theorem share_eq (c : Dev nD) (w : Fin cfg0.W) : (dats m 0 c).share w = fullShare := by unfold Dat.share; split <;> rfl

/-! ## What the launch mints -/

/-- All cells of the exchange. -/
def allCells : Finset (GSem nD τ sig) := Finset.univ.map ⟨kcell, kcell_inj⟩

/-- Of each cell, a duty for every device. -/
abbrev tokOf (x : (Dev nD × Port) × Dev nD) : GSem nD τ sig × ℕ × Dev nD := (kcell x.1, 0, x.2)
/-- The duties' tokens are distinct. -/
theorem tokOf_inj : Function.Injective tokOf := by
  rintro ⟨a, d⟩ ⟨b, e⟩ h
  have h1 : a = b := kcell_inj (congrArg Prod.fst h)
  have h2 : d = e := congrArg (fun y : GSem nD τ sig × ℕ × Dev nD => y.2.2) h
  rw [h1, h2]
/-- All duties' tokens. -/
def allToks : Finset (GSem nD τ sig × ℕ × Dev nD) := Finset.univ.map ⟨tokOf, tokOf_inj⟩

/-- The ghost state that the launch starts from. -/
def u₀ : UU := (initOf (Pipeline.cells cfgs cellOf_inj) (Pipeline.launchToks cfgs cellOf_inj), initOf allCells allToks)

/-- All duties of device `c`'s cells. -/
def toks (c : Dev nD) : sProp 𝕄 := bigSep Finset.univ fun p : Port => bigSep Finset.univ fun d : Dev nD => dutyTok ER (kcell (c, p)) 0 d

/-- What the launch mints for device `c`, -/
def G (c : Dev nD) : sProp 𝕄 :=
  iprop((bigSep Finset.univ fun p : Port => roundState ER (rd (F := F) m) (kcell (c, p)) 0)
    ∗ (bigSep Finset.univ fun p : Port => reached ER (kcell (c, p)) 0)
    ∗ (bigSep Finset.univ fun p : Port => atPos ER (kcell (c, p)) 0 ∅ 0) ∗ toks c)

/-- and what is dealt to it once every cell's invariant is known. -/
def G' (c : Dev nD) : sProp 𝕄 := iprop(∃ K, known m K ∗ mine c)

/-- A conjunction over all cells, by device and port. -/
theorem over_cells (Φ : GSem nD τ sig → sProp 𝕄) :
    bigSep allCells Φ = bigSep Finset.univ fun c : Dev nD => bigSep Finset.univ fun p : Port => Φ (kcell (c, p)) := by
  unfold allCells; rw [bigSep_map, bigSep_univ_prod]; rfl

/-- All tokens, by device. -/
theorem over_toks : bigSep allToks (fun x => (dutyTok ER x.1 x.2.1 x.2.2 : sProp 𝕄)) = bigSep Finset.univ fun c : Dev nD => toks c := by
  unfold allToks toks; rw [bigSep_map, bigSep_univ_prod, bigSep_univ_prod]; rfl

/-- The initial ghost state is each device's mint. -/
theorem fund_cells : BI.own (ER (initOf allCells allToks)) ⊢ (|==> bigSep Finset.univ (G m) : sProp 𝕄) := by
  iintro HX
  imod (Rounds.fund ER (rd (F := F) m) allCells allToks) $$ HX with ⟨Hst, Hr, Hat, Htok⟩
  imodintro
  ihave Hst' := (Entails.of_eq (over_cells fun g => roundState ER (rd (F := F) m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hr']; · iexact Hr'
  isplitl [Hat'] <;> iassumption

/-- The barrier is the one semaphore outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the runtime's barrier are the nine of the exchange. -/
theorem sems_eq (c : Dev nD) : (bigSep Finset.univ fun p : Port => semVal (kcell (c, p)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_univ_sum, bigSep_univ_of_subsingleton ()]; rfl

/-- Device `c`'s cells get their invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Port => iprop(∃ κ : ℕ, cellInv ER (rd (F := F) m) κ (kcell (c, p))))
          ∗ (bigSep Finset.univ fun p : Port => reached ER (kcell (c, p)) 0)
          ∗ (bigSep Finset.univ fun p : Port => atPos ER (kcell (c, p)) 0 ∅ 0) ∗ toks c) := by
  unfold G
  iintro ⟨Hos, Hus, Hst, Hrest⟩
  ihave Hv := (Entails.of_eq (sems_eq (F := F) c).symm) $$ [Hos Hus]
  · isplitl [Hus] <;> iassumption
  imod (show iprop((bigSep Finset.univ fun p : Port => semVal (kcell (c, p)) 0) ∗ bigSep Finset.univ fun p : Port => roundState ER (rd (F := F) m) (kcell (c, p)) 0)
      ⊢ (|={Set.univ}=> bigSep Finset.univ fun p => iprop(∃ κ : ℕ, cellInv ER (rd (F := F) m) κ (kcell (c, p))) : sProp 𝕄) from by
        rw [← bigSep_sep']
        exact (bigSep_mono fun p _ => (Rounds.body_intro ER (rd (F := F) m) (kcell (c, p))).trans inv_alloc).trans (bigSep_fupd _ _)) $$ [Hv Hst] with Hinv
  · isplitl [Hv] <;> iassumption
  imodintro
  isplitl [Hinv] <;> iassumption

/-- The duties dealt: a barrier's and a receive semaphore's to the device that each names, a send semaphore's to its own
    device. The unused ones are dropped. -/
theorem deal : (bigSep Finset.univ fun c : Dev nD => (toks c : sProp 𝕄))
    ⊢ iprop((bigSep Finset.univ fun c : Dev nD => bigSep Finset.univ fun d : Dev nD => dutyTok ER (barCell d) 0 c)
      ∗ (bigSep Finset.univ fun c : Dev nD => bigSep Finset.univ fun d : Dev nD => dutyTok ER (sendCell c d) 0 d)
      ∗ (bigSep Finset.univ fun c : Dev nD => bigSep Finset.univ fun d : Dev nD => dutyTok ER (recvCell d c) 0 c)) := by
  have own (Ψ : Dev nD → Dev nD → sProp 𝕄) (d : Dev nD) : (bigSep Finset.univ fun e => Ψ d e) ⊢ Ψ d d := bigSep_elim (Finset.mem_univ d)
  have hs : (bigSep Finset.univ fun c : Dev nD => bigSep Finset.univ fun d : Dev nD => bigSep Finset.univ fun e : Dev nD => (dutyTok ER (sendCell c d) 0 e : sProp 𝕄))
      ⊢ bigSep Finset.univ fun c : Dev nD => bigSep Finset.univ fun d : Dev nD => dutyTok ER (sendCell c d) 0 d :=
    bigSep_mono fun c _ => bigSep_mono fun d _ => own (fun d e => dutyTok ER (sendCell c d) 0 e) d
  have hr : (bigSep Finset.univ fun c : Dev nD => bigSep Finset.univ fun d : Dev nD => bigSep Finset.univ fun e : Dev nD => (dutyTok ER (recvCell c d) 0 e : sProp 𝕄))
      ⊢ bigSep Finset.univ fun c : Dev nD => bigSep Finset.univ fun d : Dev nD => dutyTok ER (recvCell c d) 0 d :=
    bigSep_mono fun c _ => bigSep_mono fun d _ => own (fun d e => dutyTok ER (recvCell c d) 0 e) d
  unfold toks
  simp only [bigSep_port, bigSep_sep']
  iintro ⟨HB, HS, HV⟩
  isplitl [HB]
  · iapply (Entails.of_eq (bigSep_univ_comm fun d c : Dev nD => (dutyTok ER (barCell d) 0 c : sProp 𝕄))); iexact HB
  isplitl [HS]
  · iapply hs; iexact HS
  · iapply (Entails.of_eq (bigSep_univ_comm fun d c : Dev nD => (dutyTok ER (recvCell d c) 0 c : sProp 𝕄)))
    iapply hr; iexact HV

/-- A persistent fact may be used for every member of a conjunction. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Device `c`'s deal, the invariants' names being known. -/
theorem mine_intro (K : Dev nD × Port → ℕ) (c : Dev nD) : iprop(known m K ∗ mine c) ⊢ G' m c := by
  unfold G'
  iintro H
  iexists K; iexact H

/-- The duties' tokens go from the cells' devices to the devices that pay them. -/
theorem regroup :
    (bigSep Finset.univ fun c : Dev nD => iprop((bigSep Finset.univ fun p : Port => iprop(∃ κ : ℕ, cellInv ER (rd (F := F) m) κ (kcell (c, p))))
          ∗ (bigSep Finset.univ fun p : Port => reached ER (kcell (c, p)) 0)
          ∗ (bigSep Finset.univ fun p : Port => atPos ER (kcell (c, p)) 0 ∅ 0) ∗ toks c) : sProp 𝕄)
      ⊢ bigSep Finset.univ (G' m) := by
  rw [bigSep_sep', bigSep_sep', bigSep_sep', ← bigSep_univ_prod (fun cp : Dev nD × Port => iprop(∃ κ : ℕ, cellInv ER (rd (F := F) m) κ (kcell cp))),
    ← bigSep_univ_prod (fun cp : Dev nD × Port => (reached ER (kcell cp) 0 : sProp 𝕄))]
  iintro ⟨HI, #HR, Hat, Htok⟩
  ihave HK := (BI.bigSep_exists_pi Finset.univ (fun (cp : Dev nD × Port) (κ : ℕ) => (cellInv ER (rd (F := F) m) κ (kcell cp) : sProp 𝕄))) $$ HI
  icases HK with ⟨%K, #HI⟩
  ihave Htk := (deal (F := F)) $$ Htok
  iapply (with_known (R := known m K) fun c _ => mine_intro m K c)
  isplitr
  · unfold known; isplitl; · iexact HI
    iexact HR
  · unfold mine; simp only [bigSep_sep']
    isplitl [Hat] <;> iassumption

/-- From what the launch mints to what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The launch's credit -/

/-- Cells are equal when their devices and ports are. -/
theorem bar_iff {a b : Dev nD} : barCell a = barCell b ↔ a = b :=
  ⟨fun h => congrArg (fun g : GSem nD τ sig => g.1.1) h, fun h => h ▸ rfl⟩
theorem recv_iff {a b j k : Dev nD} : recvCell a j = recvCell b k ↔ a = b ∧ j = k :=
  ⟨fun h => ⟨congrArg (fun g : GSem nD τ sig => g.1.1) h, (recv_eq_iff j k).mp (congrArg Prod.snd h)⟩, fun h => by rw [h.1, h.2]⟩

/-- What telling device `e` owes to device `c`'s barrier, -/
theorem bill_bar (d e c : Dev nD) : bill e d (barCell c) () = if e = c ∧ d ≠ c then 1 else 0 := by
  unfold bill
  by_cases h : e = d
  · rw [if_pos h, if_neg (fun ⟨h1, h2⟩ => h2 (h.symm.trans h1))]; rfl
  · rw [if_neg h, tallyAt_apply]
    by_cases h' : e = c
    · subst h'; rw [if_pos ⟨rfl, rfl⟩, if_pos ⟨rfl, fun h' => h h'.symm⟩]
    · rw [if_neg (fun h2 => h' (bar_iff.mp h2.1).symm), if_neg (fun h2 => h' h2.1)]

/-- and to a receive semaphore: nothing. -/
theorem bill_recv (d e c j : Dev nD) : bill e d (recvCell c j) () = 0 := by
  unfold bill
  by_cases h : e = d
  · rw [if_pos h]; rfl
  · rw [if_neg h, tallyAt_ne_cell (fun h => recv_ne_bar j (congrArg Prod.snd h)), Finsupp.zero_apply]

/-- The copies owe a barrier nothing. -/
theorem dues_bar (d c : Dev nD) : dues d (barCell c) () = 0 := by
  unfold dues
  have h (a j : Dev nD) : (tallyAt (recvCell a j) () N : CellTallies nD τ sig Unit) (barCell c) () = 0 := by
    rw [tallyAt_ne_cell (fun h => recv_ne_bar j (congrArg Prod.snd h).symm), Finsupp.zero_apply]
  simp only [Pi.add_apply, Finsupp.add_apply, h]

/-- So device `d` owes the barrier of every other device one unit. -/
theorem owed_bar (d c : Dev nD) : O₀ d (barCell c) () = if d = c then 0 else 1 := by
  unfold O₀
  simp only [Pi.add_apply, Finsupp.add_apply, dues_bar, bill_bar]
  revert d c; decide

/-- The copies of device `d` owe the receive semaphore `j` of device `c` a block when `j` is `d`; -/
theorem dues_recv (d c j : Dev nD) (hj : j ≠ c) : dues d (recvCell c j) () = if d = j then N else 0 := by
  unfold dues
  simp only [Pi.add_apply, Finsupp.add_apply, tallyAt_apply, recv_iff, and_true]
  have key : ∀ d c j : Dev nD, j ≠ c → (d = j → ((c = left d ∧ j = d) ∧ ¬(c = right d ∧ j = d) ∧ ¬(c = diag d ∧ j = d))
      ∨ (¬(c = left d ∧ j = d) ∧ (c = right d ∧ j = d) ∧ ¬(c = diag d ∧ j = d)) ∨ (¬(c = left d ∧ j = d) ∧ ¬(c = right d ∧ j = d) ∧ (c = diag d ∧ j = d))) := by decide
  by_cases h : d = j
  · rw [if_pos h]
    rcases key d c j hj h with ⟨h1, h2, h3⟩ | ⟨h1, h2, h3⟩ | ⟨h1, h2, h3⟩
    · rw [if_pos h1, if_neg h2, if_neg h3]; rfl
    · rw [if_neg h1, if_pos h2, if_neg h3, Nat.zero_add]; rfl
    · rw [if_neg h1, if_neg h2, if_pos h3, Nat.zero_add]
  · rw [if_neg h, if_neg (fun h' => h h'.2.symm), if_neg (fun h' => h h'.2.symm), if_neg (fun h' => h h'.2.symm)]

/-- so does all that `d` owes. -/
theorem owed_recv (d c j : Dev nD) (hj : j ≠ c) : O₀ d (recvCell c j) () = if d = j then N else 0 := by
  unfold O₀
  simp only [Pi.add_apply, Finsupp.add_apply, bill_recv, Nat.add_zero]
  exact dues_recv d c j hj

/-- The launch's credit on a barrier: three units; -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- on a receive semaphore of another device: one block. -/
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

/-- The launch's credit is the credit that the body asks for. -/
theorem credits_intro (c : Dev nD) : (Pipeline.launchCred O₀ c : sProp 𝕄) ⊢ credits c := by
  unfold Pipeline.launchCred credits
  rw [bigSep_univ_at _ (SemLoc.reg barS), launch_bar]
  refine sep_mono_right ?_
  have hsub : ([SemLoc.dma (recvS (diag c)), SemLoc.dma (recvS (right c)), SemLoc.dma (recvS (left c))].toFinset : Finset (SemLoc sig)) ⊆ Finset.univ.erase (SemLoc.reg barS) := by
    revert c; decide
  refine BIBase.Entails.trans (bigSep_subset hsub) ?_
  rw [bigSep_eq_bigSepL_of_eq [SemLoc.dma (recvS (diag c)), SemLoc.dma (recvS (right c)), SemLoc.dma (recvS (left c))] rfl (by revert c; decide),
    bigSepL_cons_cons, bigSepL_cons_cons, bigSepL_singleton, launch_recv c (diag c) (diag_ne c), launch_recv c (right c) (right_ne c), launch_recv c (left c) (left_ne c)]
  exact Entails.of_eq rfl

/-! ## The side conditions and the run -/

/-- What the launch gives is what the device starts with; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

/-- with the scratch buffers it is the invariant on entry; -/
theorem enter_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- and the invariant on exit is what the launch takes back. -/
theorem leave_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [sems_eq]
  iintro ⟨H0, H1, HU, HO⟩
  isplitl [HU]; · iexact HU
  isplitl [HO]; · iexact HO
  isplitl [H0] <;> iassumption

/-- The pipeline's own waits are below everything that a device owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the array of window `w` holds at the end. -/
def finalA (c : Dev nD) (w : Fin cfg0.W) : Buf (Elt F) ((cfg0.win w).arr.view.loc (c : Thread nD τ)) := (dats m 0 c).arrAt w cfg0.N

/-- The end of a run: every window's array holds its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of the four kernels ends, with each device's arrays at `finalA` and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter_intro m) (hout := leave_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds what it held. -/
theorem finalA_in (c : Dev nD) (w : Fin cfg0.W) (hw : (cfg0.win w).isOut = false) : finalA m c w = m ((cfg0.win w).arr.view.loc (c : Thread nD τ)) :=
  (dats (F := F) m 0 c).arrAt_in w hw _

end Cert.KernelIdeal.Xchg

end
-- ==== Proof.KernelIdealFrame.lean ====
module

public import proofs.«01_k».proof.Proof.KernelIdealRun

/-! The frame: the program runs, leaves its four arguments as they were, and every semaphore at zero. -/

@[expose] public section

noncomputable section

namespace Cert.KernelIdeal.Xchg

open Idealize.ShloMosaic Idealize.SL.Sem Cert.KernelIdeal Cert.KernelIdeal.Gen

variable {F : FTy → Type} [FloatOps F]
variable (m : (ℓ : Loc nD τ sig) → Buf (Elt F) ℓ) (ρ : Dev nD → PrngReg)

/-- The four arguments of device `c` are the same in two memories. -/
def SameArgs (m' m : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)

/-- Final contents of every window's array keep the arguments. -/
theorem QC.args {m : (ℓ : Loc nD τ sig) → Buf (Elt F) ℓ} {r : PUnit × MemSt nD τ sig (Elt F)} (h : QC m r) (c : Dev nD) :
    SameArgs r.2.mem m c :=
  ⟨(h c 0).trans (finalA_in m c 0 rfl), (h c 1).trans (finalA_in m c 1 rfl),
    (h c 2).trans (finalA_in m c 2 rfl), (h c 3).trans (finalA_in m c 3 rfl)⟩

/-- From any memory the program runs to the end, keeps its arguments and leaves all semaphores at zero. -/
theorem frame : θ_run defs (onTc (τ := τ) (main (F := F))) ⟨m, fun _ => 0, ρ⟩
    (fun r => (∀ c, SameArgs r.2.mem m c) ∧ r.2.sem = fun _ => 0) :=
  (θ_run defs _ _).mono (fun r h => ⟨fun c => h.1.args c, h.2⟩) (run_main m ρ)

end Cert.KernelIdeal.Xchg

end

end
-- ==== Proof.Softmax.lean ====
module

public import Idealize.ShloMosaic.PureOps.Ideal

/-! Softmax weights over the extended reals: the share of one of two probabilities is the logistic function of the
difference of the two scores, when all scores are finite. -/

@[expose] public section

noncomputable section

namespace Cert.Softmax

open Idealize.ShloMosaic

/-- The greatest of eight scores. -/
def top (s : Fin 8 → EReal) : EReal := Finset.univ.fold max (Ideal.ofBits .f32 0xFF800000#32) s

/-- The softmax of eight scores. -/
def soft (s : Fin 8 → EReal) (k : Fin 8) : EReal := Ideal.div (Ideal.exp (s k - top s)) (∑ j, Ideal.exp (s j - top s))

/-- The logistic weight of score `a` against score `b`. -/
def gate (s : Fin 8 → EReal) (a b : Fin 8) : EReal := Ideal.div 1 (1 + Ideal.exp (s b - s a))

/-- The same number as a real one. -/
def gateR (s : Fin 8 → ℝ) (a b : Fin 8) : ℝ := 1 / (1 + Real.exp (s b - s a))

/-- The words of the two infinities. -/
theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A quotient of reals by one that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The greatest of eight reals is a real. -/
theorem top_coe (s : Fin 8 → ℝ) : ∃ t : ℝ, top (fun j => (s j : EReal)) = t := by
  have h : top (fun j => (s j : EReal)) = Finset.univ.sup fun j => (s j : EReal) := by
    unfold top; rw [ofBits_neg_inf]; rfl
  obtain ⟨j, -, hj⟩ := Finset.exists_mem_eq_sup (Finset.univ : Finset (Fin 8)) ⟨0, Finset.mem_univ _⟩ fun j => (s j : EReal)
  exact ⟨s j, h.trans hj⟩

/-- The softmax of eight reals, with the reals `E j = exp (s j - t)` and their sum. -/
theorem soft_coe (s : Fin 8 → ℝ) : ∃ t : ℝ, ∀ k, soft (fun j => (s j : EReal)) k
    = ((Real.exp (s k - t) / ∑ j, Real.exp (s j - t) : ℝ) : EReal) := by
  obtain ⟨t, ht⟩ := top_coe s
  refine ⟨t, fun k => ?_⟩
  have he (j : Fin 8) : Ideal.exp ((s j : EReal) - t) = (Real.exp (s j - t) : EReal) := by rw [← EReal.coe_sub]; rfl
  have hpos : (∑ j, Real.exp (s j - t)) ≠ 0 := (Finset.sum_pos (fun j _ => Real.exp_pos _) ⟨0, Finset.mem_univ _⟩).ne'
  unfold soft
  simp only [ht, he]
  rw [← coe_sum, div_coe _ _ hpos]

/-- The logistic weight of real scores is a real number, -/
theorem gate_coe (s : Fin 8 → ℝ) (a b : Fin 8) : gate (fun j => (s j : EReal)) a b = (gateR s a b : EReal) := by
  unfold gate gateR
  have he : Ideal.exp ((s b : EReal) - s a) = (Real.exp (s b - s a) : EReal) := by rw [← EReal.coe_sub]; rfl
  simp only [he]
  rw [← EReal.coe_one, ← EReal.coe_add, div_coe _ _ (by positivity)]

/-- not negative -/
theorem gateR_nonneg (s : Fin 8 → ℝ) (a b : Fin 8) : 0 ≤ gateR s a b := by unfold gateR; positivity
/-- and at most one. -/
theorem gateR_le_one (s : Fin 8 → ℝ) (a b : Fin 8) : gateR s a b ≤ 1 := by
  unfold gateR; rw [div_le_one (by positivity)]; linarith [Real.exp_pos (s b - s a)]

/-- The first probability's share of the two is the logistic weight, -/
theorem share_first (s : Fin 8 → ℝ) (a b : Fin 8) :
    Ideal.div (soft (fun j => (s j : EReal)) a) (soft (fun j => (s j : EReal)) a + soft (fun j => (s j : EReal)) b) = (gateR s a b : EReal) := by
  obtain ⟨t, ht⟩ := soft_coe s
  have hz : 0 < ∑ j, Real.exp (s j - t) := Finset.sum_pos (fun j _ => Real.exp_pos _) ⟨0, Finset.mem_univ _⟩
  rw [ht, ht, ← EReal.coe_add, div_coe _ _ (by positivity)]
  congr 1
  unfold gateR
  have hb : Real.exp (s b - s a) = Real.exp (s b - t) / Real.exp (s a - t) := by rw [← Real.exp_sub]; congr 1; ring
  rw [hb]
  have ha := Real.exp_pos (s a - t)
  have hb' := Real.exp_pos (s b - t)
  field_simp

/-- and the second one's is what is left of one. -/
theorem share_second (s : Fin 8 → ℝ) (a b : Fin 8) :
    Ideal.div (soft (fun j => (s j : EReal)) b) (soft (fun j => (s j : EReal)) a + soft (fun j => (s j : EReal)) b)
      = ((1 - gateR s a b : ℝ) : EReal) := by
  obtain ⟨t, ht⟩ := soft_coe s
  have hz : 0 < ∑ j, Real.exp (s j - t) := Finset.sum_pos (fun j _ => Real.exp_pos _) ⟨0, Finset.mem_univ _⟩
  rw [ht, ht, ← EReal.coe_add, div_coe _ _ (by positivity)]
  congr 1
  unfold gateR
  have hb : Real.exp (s b - s a) = Real.exp (s b - t) / Real.exp (s a - t) := by rw [← Real.exp_sub]; congr 1; ring
  rw [hb]
  have ha := Real.exp_pos (s a - t)
  have hb' := Real.exp_pos (s b - t)
  field_simp
  ring

/-- What expert `e` weighs for a token whose two experts are `a` and `b`, the first with weight `p`, the second with `q`. -/
def load (p q : ℝ) (a b e : Fin 8) : EReal := (if a = e then (p : EReal) else 0) + (if b = e then (q : EReal) else 0)

/-- A real factor that is not negative goes out of a finite sum of extended reals. -/
theorem mul_sum_of_nonneg {ι : Type} (t : Finset ι) (p : ℝ) (hp : 0 ≤ p) (f : ι → EReal) :
    ∑ i ∈ t, (p : EReal) * f i = (p : EReal) * ∑ i ∈ t, f i := by
  classical
  induction t using Finset.induction_on with
  | empty => simp
  | insert a t ha ih =>
    rw [Finset.sum_insert ha, Finset.sum_insert ha, ih,
      EReal.left_distrib_of_nonneg_of_ne_top (by exact_mod_cast hp) (EReal.coe_ne_top p)]

/-- Scaling the left factors of a sum of products by an expert's weight scales the sum, -/
theorem sum_loaded {n : ℕ} (p q : ℝ) (hp : 0 ≤ p) (hq : 0 ≤ q) (a b e : Fin 8) (x w : Fin n → EReal) :
    ∑ k, x k * load p q a b e * w k = load p q a b e * ∑ k, x k * w k := by
  obtain ⟨l, hl, h⟩ : ∃ l : ℝ, 0 ≤ l ∧ load p q a b e = (l : EReal) := by
    refine ⟨(if a = e then p else 0) + (if b = e then q else 0), by split_ifs <;> positivity, ?_⟩
    unfold load; split_ifs <;> simp
  rw [h, ← mul_sum_of_nonneg _ l hl]
  exact Finset.sum_congr rfl fun k _ => by rw [mul_comm (x k), mul_assoc]

/-- and the experts' sums, each with its weight, add up to those of the token's two experts. -/
theorem sum_experts (p q : ℝ) (hp : 0 ≤ p) (hq : 0 ≤ q) (a b : Fin 8) (T : Fin 8 → EReal) :
    ∑ e, load p q a b e * T e = (p : EReal) * T a + (q : EReal) * T b := by
  have h (e : Fin 8) : load p q a b e * T e = (if a = e then (p : EReal) * T e else 0) + (if b = e then (q : EReal) * T e else 0) := by
    unfold load
    rw [EReal.right_distrib_of_nonneg (by split_ifs <;> simp [hp]) (by split_ifs <;> simp [hq])]
    split_ifs <;> simp
  simp only [h, Finset.sum_add_distrib, Finset.sum_ite_eq, Finset.mem_univ, if_true]

end Cert.Softmax

end

end
-- ==== Proof.Inputs.lean ====
module

public import proofs.«01_k».proof.Defs
public import proofs.«01_k».proof.Proof.Gen.Pre_finite_and_in_range_KernelIdeal
public import proofs.«01_k».proof.Proof.Softmax
public import Idealize.ShloMosaic.Lib.ReduceAll
public import Idealize.ShloMosaic.Lib.Pointwise

/-! What the precondition says of the inputs: the rows and the router's columns are real numbers, each index word names an expert. -/

@[expose] public section

noncomputable section

namespace Cert.Inputs

open Idealize.ShloMosaic Idealize.SL.Sem Cert.Pre_finite_and_in_range_KernelIdeal

set_option maxRecDepth 16384

/-- A word of `[0, 8)` names an expert. -/
theorem names_expert (w : BitVec 32) (h0 : IntOp.cmpi .sge w 0#32 = 1#1) (h8 : IntOp.cmpi .slt w 8#32 = 1#1) :
    ∃ a : Fin 8, w = BitVec.ofNat 32 a.val := by
  have h0 := IntOp.cmpi_sge.1 h0
  have h8 := IntOp.cmpi_slt.1 h8
  have e : w.toNat < 8 := by
    have e0 : (0#32).toInt = 0 := rfl
    have e8 : (8#32).toInt = 8 := rfl
    have ew := BitVec.toInt_eq_toNat_cond w
    have lt := w.isLt
    split_ifs at ew <;> omega
  exact ⟨⟨w.toNat, e⟩, BitVec.eq_of_toNat_eq (by simp)⟩

/-- A number whose magnitude is below infinity is a real number. -/
theorem real_of_abs_lt (v : EReal) (h : Ideal.cmp .olt (max v (-v)) ⊤ = 1#1) : ∃ r : ℝ, v = r := by
  have h : max v (-v) < ⊤ := (Ideal.cmp_olt_eq_one _ _).1 h
  induction v with
  | bot => simp at h
  | top => simp at h
  | coe r => exact ⟨r, rfl⟩

/-- A scalar has one entry. -/
instance : Subsingleton S_.Idx := ⟨fun a b => funext fun i => i.elim0⟩

variable {x : FVec Ideal S256x128 .f32} {g : FVec Ideal S128x8 .f32} {i : IVec S256x2 32} {w : FVec Ideal S2x128x256 .f32}

/-- The precondition, entry by entry. -/
theorem decode (h : fn (F := Ideal) x g i w = fun _ => 1#1) :
    (∀ j, ∃ r : ℝ, x j = r) ∧ (∀ j, ∃ r : ℝ, g j = r) ∧ ∀ j, ∃ a : Fin 8, i j = BitVec.ofNat 32 a.val := by
  have h := congrFun h (fun i => i.elim0)
  unfold fn at h
  obtain ⟨h, hi⟩ := IntOp.andi_eq_one.1 h
  obtain ⟨hx, hg⟩ := IntOp.andi_eq_one.1 h
  refine ⟨fun j => ?_, fun j => ?_, fun j => ?_⟩
  · refine real_of_abs_lt _ ((congrArg (Ideal.cmp .olt _) ?_).trans (Host.reduce_andi_all _ _ _ _ _ hx j))
    exact Cert.Softmax.ofBits_inf.symm
  · refine real_of_abs_lt _ ((congrArg (Ideal.cmp .olt _) ?_).trans (Host.reduce_andi_all _ _ _ _ _ hg j))
    exact Cert.Softmax.ofBits_inf.symm
  · obtain ⟨h0, h8⟩ := IntOp.andi_eq_one.1 (Host.reduce_andi_all _ _ _ _ _ hi j)
    exact names_expert _ h0 h8

/-- The scores of a row are real numbers. -/
theorem scores_real (hx : ∀ j, ∃ r : ℝ, x j = r) (hg : ∀ j, ∃ r : ℝ, g j = r) (r : Fin 256) :
    ∃ s : Fin 8 → ℝ, ∀ k, ∑ j, x (ix2 r j) * g (ix2 j k) = (s k : EReal) := by
  choose u hu using hx
  choose v hv using hg
  refine ⟨fun k => ∑ j, u (ix2 r j) * v (ix2 j k), fun k => ?_⟩
  simp only [hu, hv, ← EReal.coe_mul]
  exact (Cert.Softmax.coe_sum _ _).symm

end Cert.Inputs

end

end
-- ==== Proof.KernelValue.lean ====
module

public import proofs.«01_k».proof.Proof.KernelIdealRun
public import proofs.«01_k».proof.Proof.Softmax
public import Idealize.ShloMosaic.Lib.Pointwise
public import Idealize.ShloMosaic.Lib.Pipeline.ValueKit

/-! What the kernel computes, read at an entry over the extended reals. -/

@[expose] public section

noncomputable section

namespace Cert.KernelIdeal.Xchg

open Idealize.ShloMosaic Idealize.SL.Sem Cert.KernelIdeal Cert.KernelIdeal.Gen Idealize.ShloMosaic.TcCoe Cert.Softmax

set_option maxRecDepth 16384

/-! ## Words that name an expert -/

/-- The comparison of two experts' words chooses as the equality of the experts does. -/
theorem sel_same (a e : Fin 8) (u v : EReal) :
    Scalar.select (IntOp.cmpi .eq (BitVec.ofNat 32 a.val) (BitVec.ofNat 32 e.val)) u v = if a = e then u else v := by
  have h : IntOp.cmpi .eq (BitVec.ofNat 32 a.val) (BitVec.ofNat 32 e.val) = if a = e then 1#1 else 0#1 := by revert a e; decide
  rw [h]; split_ifs <;> rfl

/-- Expert number `j` of device `d`. -/
def expert (d : Dev nD) (j : Fin 2) : Fin 8 := ⟨2 * d.val + j.val, by have := d.isLt; have : nD = 4 := rfl; omega⟩

/-- The words that the kernel computes for its two experts. -/
theorem word_even (d : Dev nD) : Scalar.muli (place d) 2#32 = BitVec.ofNat 32 (expert d 0).val := by revert d; decide
theorem word_odd (d : Dev nD) : Scalar.addi (BitVec.ofNat 32 (expert d 0).val) 1#32 = BitVec.ofNat 32 (expert d 1).val := by revert d; decide

/-- The sum of a row's scores masked to one expert's column is that expert's score. -/
theorem sum_masked (s : Fin 8 → EReal) (a : Fin 8) :
    ∑ k : Fin 8, Scalar.select (IntOp.cmpi .eq (BitVec.ofNat 32 k.val) (BitVec.ofNat 32 a.val)) (s k) 0 = s a := by
  simp only [sel_same, Finset.sum_ite_eq', Finset.mem_univ, if_true]

/-- One less a real number. -/
theorem one_sub_coe (p : ℝ) : (1 : EReal) - (p : EReal) = ((1 - p : ℝ) : EReal) := by rw [EReal.coe_sub, EReal.coe_one]

/-! ## One device's operands and products -/

/-- A scaled row: for each of the device's two experts, the row of `x` times that expert's weight. -/
theorem lhs_entry (d : Dev nD) (x : Vec Ideal S256x128 .f32) (g : Vec Ideal S128x8 .f32) (i₀ i₁ : Vec Ideal S256x1 .i32)
    (r : Fin 256) (a b : Fin 8) (ha : i₀ (ix2 r 0) = BitVec.ofNat 32 a.val) (hb : i₁ (ix2 r 0) = BitVec.ofNat 32 b.val)
    (s : Fin 8 → ℝ) (hs : ∀ k, ∑ j, x (ix2 r j) * g (ix2 j k) = (s k : EReal)) (k : Fin 256) :
    lhsOf d x g i₀ i₁ (ix2 r k)
      = if h : k.val < 128 then x (ix2 r (⟨k.val, h⟩ : Fin 128)) * load (gateR s a b) (1 - gateR s a b) a b (expert d 0)
        else x (ix2 r (⟨k.val - 128, by omega⟩ : Fin 128)) * load (gateR s a b) (1 - gateR s a b) a b (expert d 1) := by
  have hg := gate_coe s a b
  unfold gate at hg
  unfold lhsOf
  pointwise [k0_pay28, k0_pay22, k0_pay23, k0_pay24, k0_pay25, k0_pay26, k0_pay27]
  simp only [ha, hb, hs, sum_masked fun k => (s k : EReal)]
  simp only [word_even, word_odd, sel_same, hg, one_sub_coe]
  rfl

/-- The two experts' matrices, one above the other. -/
theorem rhs_entry (w₀ w₁ : Vec Ideal S1x128x256 .f32) (k o : Fin 256) :
    rhsOf w₀ w₁ (ix2 k o) = if h : k.val < 128 then w₀ (ix3 0 (⟨k.val, h⟩ : Fin 128) o) else w₁ (ix3 0 (⟨k.val - 128, by omega⟩ : Fin 128) o) := by
  unfold rhsOf
  pointwise [k0_pay1, k0_pay29]

/-- Row `t` of device `c`'s 64 rows among all 256. -/
def rowOf (c : Dev nD) (t : Fin 64) : Fin 256 := ⟨64 * c.val + t.val, by have := c.isLt; have : nD = 4 := rfl; omega⟩

/-- An entry of a product: a row of the whole times a column. -/
theorem prod_entry (c : Dev nD) (a b : FVec Ideal S256x256 .bf16) (t : Fin 64) (o : Fin 256) :
    prodOf c a b (ix2 t o) = ∑ k, a (ix2 (rowOf c t) k) * b (ix2 k o) := by
  pointwise [prodOf]
  rfl

/-- What is sent is the product, unrounded over the extended reals. -/
theorem chunk_entry (c : Dev nD) (a b : FVec Ideal S256x256 .bf16) (t : Fin 64) (o : Fin 256) :
    chunkOf c a b (ix2 t o) = prodOf c a b (ix2 t o) := by
  pointwise [chunkOf]

/-- A device's product for a token's row: for each of the device's two experts, the expert's weight times the row through it. -/
theorem prod_value (c d : Dev nD) (x : Vec Ideal S256x128 .f32) (g : Vec Ideal S128x8 .f32) (i₀ i₁ : Vec Ideal S256x1 .i32)
    (w₀ w₁ : Vec Ideal S1x128x256 .f32) (t : Fin 64) (o : Fin 256)
    (a b : Fin 8) (ha : i₀ (ix2 (rowOf c t) 0) = BitVec.ofNat 32 a.val) (hb : i₁ (ix2 (rowOf c t) 0) = BitVec.ofNat 32 b.val)
    (s : Fin 8 → ℝ) (hs : ∀ k, ∑ j, x (ix2 (rowOf c t) j) * g (ix2 j k) = (s k : EReal)) :
    prodOf c (lhsOf d x g i₀ i₁) (rhsOf w₀ w₁) (ix2 t o)
      = load (gateR s a b) (1 - gateR s a b) a b (expert d 0) * (∑ k : Fin 128, x (ix2 (rowOf c t) k) * w₀ (ix3 0 k o))
        + load (gateR s a b) (1 - gateR s a b) a b (expert d 1) * (∑ k : Fin 128, x (ix2 (rowOf c t) k) * w₁ (ix3 0 k o)) := by
  have h0 := gateR_nonneg s a b
  have h1 := sub_nonneg.mpr (gateR_le_one s a b)
  rw [prod_entry c _ _ t o, ← sum_loaded _ _ h0 h1, ← sum_loaded _ _ h0 h1, Fin.sum_univ_two_halves 128 128 rfl]
  simp only [lhs_entry d x g i₀ i₁ (rowOf c t) a b ha hb s hs, rhs_entry]
  congr 1

/-! ## The arrays that a device reads and writes -/

variable (m : (ℓ : Loc nD τ sig) → Buf (Elt Ideal) ℓ)

/-- The launch's only point. -/
abbrev pt : Fin cfg0.N := ⟨0, by decide⟩

/-- Each window's one block is the whole array: the rows, -/
theorem xAt_eq (c : Dev nD) : xAt m c = m ((c : Thread nD τ).loc main_arg0) := by
  show ((cfg0.win 0).blk pt).view.read (Elt Ideal) (m ((c : Thread nD τ).loc main_arg0)) = _
  have h (a : Fin 2) : win0_0.index pt a = 0 := by revert a; decide +kernel
  funext i
  refine congrArg (m ((c : Thread nD τ).loc main_arg0)) ?_
  blk_ext [h]
/-- the router, -/
theorem gAt_eq (c : Dev nD) : gAt m c = m ((c : Thread nD τ).loc main_arg1) := by
  show ((cfg0.win 1).blk pt).view.read (Elt Ideal) (m ((c : Thread nD τ).loc main_arg1)) = _
  have h (a : Fin 2) : win0_1.index pt a = 0 := by revert a; decide +kernel
  funext i
  refine congrArg (m ((c : Thread nD τ).loc main_arg1)) ?_
  blk_ext [h]
/-- the indices, -/
theorem iAt_eq (c : Dev nD) : iAt m c = m ((c : Thread nD τ).loc main_arg2) := by
  show ((cfg0.win 2).blk pt).view.read (Elt Ideal) (m ((c : Thread nD τ).loc main_arg2)) = _
  have h (a : Fin 2) : win0_2.index pt a = 0 := by revert a; decide +kernel
  funext i
  refine congrArg (m ((c : Thread nD τ).loc main_arg2)) ?_
  blk_ext [h]
/-- the device's two matrices. -/
theorem wAt_eq (c : Dev nD) : wAt m c = m ((c : Thread nD τ).loc main_arg3) := by
  show ((cfg0.win 3).blk pt).view.read (Elt Ideal) (m ((c : Thread nD τ).loc main_arg3)) = _
  have h (a : Fin 3) : win0_3.index pt a = 0 := by revert a; decide +kernel
  funext i
  refine congrArg (m ((c : Thread nD τ).loc main_arg3)) ?_
  blk_ext [h]

/-- The loads of a device, read at an entry of the array they load from. -/
theorem load_x (v : cc0_stg0_0.ty.Contents (Elt Ideal)) (r : Fin 256) (k : Fin 128) :
    xM.view.readAt (Elt Ideal) (Rect.unit (s := S256x128) ![0, 0] S256x128.size inb_S256x128_S256x128_0_0).toLoadRect v (ix2 r k) = v (ix2 r k) := by
  simp only [View.readAt_eq_ld]
  pointwise
  rfl
theorem load_g (v : cc0_stg1_0.ty.Contents (Elt Ideal)) (r : Fin 128) (k : Fin 8) :
    gM.view.readAt (Elt Ideal) (Rect.unit (s := S128x8) ![0, 0] S128x8.size inb_S128x8_S128x8_0_0).toLoadRect v (ix2 r k) = v (ix2 r k) := by
  simp only [View.readAt_eq_ld]
  pointwise
  rfl
theorem load_first (v : cc0_stg2_0.ty.Contents (Elt Ideal)) (r : Fin 256) :
    iM.view.readAt (Elt Ideal) (Rect.unit (s := S256x2) ![0, 0] S256x1.size inb_S256x2_S256x1_0_0).toLoadRect v (ix2 r 0) = v (ix2 r 0) := by
  simp only [View.readAt_eq_ld]
  pointwise
  rfl
theorem load_second (v : cc0_stg2_0.ty.Contents (Elt Ideal)) (r : Fin 256) :
    iM.view.readAt (Elt Ideal) (Rect.unit (s := S256x2) ![0, 1] S256x1.size inb_S256x2_S256x1_0_1).toLoadRect v (ix2 r 0) = v (ix2 r 1) := by
  simp only [View.readAt_eq_ld]
  pointwise
  rfl
theorem load_upper (v : cc0_stg3_0.ty.Contents (Elt Ideal)) (k : Fin 128) (o : Fin 256) :
    wM.view.readAt (Elt Ideal) (Rect.unit (s := S2x128x256) ![0, 0, 0] S1x128x256.size inb_S2x128x256_S1x128x256_0_0_0).toLoadRect v (ix3 0 k o)
      = v (ix3 0 k o) := by
  simp only [View.readAt_eq_ld]
  pointwise
  rfl
theorem load_lower (v : cc0_stg3_0.ty.Contents (Elt Ideal)) (k : Fin 128) (o : Fin 256) :
    wM.view.readAt (Elt Ideal) (Rect.unit (s := S2x128x256) ![1, 0, 0] S1x128x256.size inb_S2x128x256_S1x128x256_1_0_0).toLoadRect v (ix3 0 k o)
      = v (ix3 1 k o) := by
  simp only [View.readAt_eq_ld]
  pointwise
  rfl

/-- After the run the output array holds what the device has stored. -/
theorem final_out (c : Dev nD) : finalA m c 4 = outAt m c := by
  unfold finalA
  refine (dats m 0 c).arrAt_eq_of_after_last 4 pt (by decide +kernel) _ fun j => ?_
  blk_simp
  rfl

/-! ## The sum over the devices -/

/-- The order in which device `c` adds the four devices' shares does not matter. -/
theorem sum_around (S : Dev nD → EReal) (c : Dev nD) : S c + S (left c) + S (right c) + S (diag c) = ∑ d, S d := by
  have h : (Finset.univ : Finset (Dev nD)) = {c, left c, right c, diag c} := by revert c; decide
  rw [h, Finset.sum_insert (by clear h; revert c; decide), Finset.sum_insert (by clear h; revert c; decide),
    Finset.sum_insert (by clear h; revert c; decide), Finset.sum_singleton, add_assoc, add_assoc]

/-- The devices' pairs of experts are the eight experts. -/
theorem sum_pairs (f : Fin 8 → EReal) : ∑ d : Dev nD, (f (expert d 0) + f (expert d 1)) = ∑ e, f e := by
  rw [Fin.sum_univ_eight]
  refine (Fin.sum_univ_four _).trans ?_
  simp only [add_assoc]
  rfl

/-- An entry of a device's result, when the devices hold copies of `X`, `G`, `I` and two experts' matrices of `W` each:
the row through the token's two experts, weighted. -/
theorem out_value (X : S256x128.Idx → EReal) (G : S128x8.Idx → EReal) (I : S256x2.Idx → BitVec 32) (W : (⟨3, ![8, 128, 256]⟩ : Shape).Idx → EReal)
    (hX : ∀ d : Dev nD, m ((d : Thread nD τ).loc main_arg0) = X) (hG : ∀ d : Dev nD, m ((d : Thread nD τ).loc main_arg1) = G)
    (hI : ∀ d : Dev nD, m ((d : Thread nD τ).loc main_arg2) = I)
    (hW : ∀ (d : Dev nD) (j : Fin 2) (k : Fin 128) (o : Fin 256), m ((d : Thread nD τ).loc main_arg3) (ix3 j k o) = W (ix3 (expert d j) k o))
    (c : Dev nD) (t : Fin 64) (o : Fin 256)
    (a b : Fin 8) (ha : I (ix2 (rowOf c t) 0) = BitVec.ofNat 32 a.val) (hb : I (ix2 (rowOf c t) 1) = BitVec.ofNat 32 b.val)
    (s : Fin 8 → ℝ) (hs : ∀ k, ∑ j, X (ix2 (rowOf c t) j) * G (ix2 j k) = (s k : EReal)) :
    finalA m c 4 (ix2 t o)
      = (gateR s a b : EReal) * (∑ k : Fin 128, X (ix2 (rowOf c t) k) * W (ix3 a k o))
        + ((1 - gateR s a b : ℝ) : EReal) * (∑ k : Fin 128, X (ix2 (rowOf c t) k) * W (ix3 b k o)) := by
  have key (d : Dev nD) : prodOf c (lhsAt m d) (rhsAt m d) (ix2 t o)
      = load (gateR s a b) (1 - gateR s a b) a b (expert d 0) * (∑ k : Fin 128, X (ix2 (rowOf c t) k) * W (ix3 (expert d 0) k o))
        + load (gateR s a b) (1 - gateR s a b) a b (expert d 1) * (∑ k : Fin 128, X (ix2 (rowOf c t) k) * W (ix3 (expert d 1) k o)) := by
    unfold lhsAt rhsAt
    rw [prod_value c d _ _ _ _ _ _ t o a b (by rw [load_first, iAt_eq, hI, ha]) (by rw [load_second, iAt_eq, hI, hb]) s
      (fun k => (Finset.sum_congr rfl fun j _ => by rw [load_x, load_g, xAt_eq, gAt_eq, hX, hG]).trans (hs k))]
    congr 2 <;> refine Finset.sum_congr rfl fun k _ => ?_
    · rw [load_x, load_upper, xAt_eq, wAt_eq, hX, hW]
    · rw [load_x, load_lower, xAt_eq, wAt_eq, hX, hW]
  rw [final_out]
  unfold outAt chunk
  pointwise
  simp only [chunk_entry, key]
  let T : Fin 8 → EReal := fun e => ∑ k : Fin 128, X (ix2 (rowOf c t) k) * W (ix3 e k o)
  let f : Fin 8 → EReal := fun e => load (gateR s a b) (1 - gateR s a b) a b e * T e
  exact (sum_around (fun d => f (expert d 0) + f (expert d 1)) c).trans
    ((sum_pairs f).trans (sum_experts _ _ (gateR_nonneg s a b) (sub_nonneg.mpr (gateR_le_one s a b)) a b T))

end Cert.KernelIdeal.Xchg

end

end
-- ==== Proof.RefTerm.lean ====
module

public import proofs.«01_k».proof.Proof.Gen.ReferenceIdeal.Run

/-! The reference's result as a composition of a few named functions of the four arguments. -/

@[expose] public section

noncomputable section

namespace Cert.ReferenceIdeal.Mix

open Idealize.ShloMosaic Idealize.SL.Sem Cert.ReferenceIdeal Cert.ReferenceIdeal.Gen

variable {F : FTy → Type} [FloatOps F]

/-- The router's scores, a row per token and a column per expert. -/
def scores (x : FVec F S256x128 .f32) (g : FVec F S128x8 .f32) : FVec F S256x8 .f32 :=
  Host.dotGeneral dot_S256x128_S128x8_S256x8_1_0_0_1_n_n none x g

/-- A value per token, in all eight columns. -/
def across (v : FVec F S256 .f32) : FVec F S256x8 .f32 :=
  broadcastInDim S256x8 ![0, 1] bcast_S256x1_S256x8_0_1 (broadcastInDim S256x1 ![0] bcast_S256_S256x1_0 v)

/-- The exponentials of the scores less the row's greatest one. -/
def expo (s : FVec F S256x8 .f32) : FVec F S256x8 .f32 :=
  Host.exp (subf s (across (Host.reduce FloatOps.maximumf s (constant S_ .f32 0xFF800000#32) reducesTo_S256x8_S256_d1 h_S_)))

/-- The softmax of the scores along a row. -/
def probs (s : FVec F S256x8 .f32) : FVec F S256x8 .f32 :=
  Host.divf (expo s) (across (Host.reduceAdd (expo s) (constant S_ .f32 0x00000000#32) reducesTo_S256x8_S256_d1 h_S_))

/-- The two columns of the chosen experts. -/
def first (i : IVec S256x2 32) : IVec S256 32 :=
  shapeCast S256 (extractStridedSlice S256x1 ![0, 0] i slices_S256x2_S256x1_0_0) shapeCasts_S256x1_S256
/-- The second index of each row. -/
def second (i : IVec S256x2 32) : IVec S256 32 :=
  shapeCast S256 (extractStridedSlice S256x1 ![0, 1] i slices_S256x2_S256x1_0_1) shapeCasts_S256x1_S256

/-- An index into an axis of `n`, counted from the end where it is negative. -/
def wrap (n : BitVec 32) (i : IVec S256 32) : IVec S256 32 :=
  select (cmpi .slt i (broadcastInDim S256 ![] bcast_S_S256 (constantI S_ 32 0#32)))
    (addi i (broadcastInDim S256 ![] bcast_S_S256 (constantI S_ 32 n))) i

/-- A vector as one column. -/
def col (i : IVec S256 32) : IVec S256x1 32 := broadcastInDim S256x1 ![0] bcast_S256_S256x1_0 i

/-- A row's number beside the index that the row holds. -/
def cell (i : IVec S256 32) : IVec S256x2 32 :=
  concatenate S256x2 1 [⟨S256x1, col (wrap 256#32 (iotaInDim S256 32 0))⟩, ⟨S256x1, col (wrap 8#32 i)⟩] concatenates_S256x1_S256x1_S256x2_d1

/-- In every row, the entry at the row's index. -/
def pick (p : FVec F S256x8 .f32) (i : IVec S256 32) : FVec F S256 .f32 :=
  Host.gather gather_S256x8_S256x2_S256_n_01_n_n_01_1_11 p (cell i)

/-- For every row, the matrix of the row's expert. -/
def mats (w : FVec F S8x128x256 .f32) (i : IVec S256 32) : FVec F S256x128x256 .f32 :=
  Host.gather gather_S8x128x256_S256x1_S256x128x256_12_0_n_n_0_1_1128256 w (col (wrap 8#32 i))

/-- Every row through its expert. -/
def through (x : FVec F S256x128 .f32) (w : FVec F S8x128x256 .f32) (i : IVec S256 32) : FVec F S256x256 .f32 :=
  Host.dotGeneral dot_S256x128_S256x128x256_S256x256_1_1_n_2_0_0 none x (mats w i)

/-- The rows of `y`, each times its share `p / s`. -/
def scaled (p s : FVec F S256 .f32) (y : FVec F S256x256 .f32) : FVec F S256x256 .f32 :=
  mulf (broadcastInDim S256x256 ![0, 1] bcast_S256x1_S256x256_0_1 (broadcastInDim S256x1 ![0] bcast_S256_S256x1_0 (Host.divf p s))) y

/-- The whole reference. -/
def mixture (x : FVec F S256x128 .f32) (g : FVec F S128x8 .f32) (i : IVec S256x2 32) (w : FVec F S8x128x256 .f32) : FVec F S256x256 .f32 :=
  addf
    (scaled (pick (probs (scores x g)) (first i)) (addf (pick (probs (scores x g)) (first i)) (pick (probs (scores x g)) (second i)))
      (through x w (first i)))
    (scaled (pick (probs (scores x g)) (second i)) (addf (pick (probs (scores x g)) (first i)) (pick (probs (scores x g)) (second i)))
      (through x w (second i)))

/-- The reference's result array is the mixture of its arguments. -/
theorem result_eq (m : (ℓ : Loc nD τ sig) → Buf (Elt F) ℓ) (c : Dev nD) :
    Value.res_out0 m c = mixture (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Mix

end

end
-- ==== Proof.RefEntry.lean ====
module

public import proofs.«01_k».proof.Proof.RefTerm
public import proofs.«01_k».proof.Proof.Softmax
public import Idealize.ShloMosaic.Lib.Pointwise

/-! The reference's named functions read at an entry, over the extended reals. -/

@[expose] public section

noncomputable section

namespace Cert.ReferenceIdeal.Mix

open Idealize.ShloMosaic Idealize.SL.Sem Cert.ReferenceIdeal Cert.ReferenceIdeal.Gen Cert.Softmax

/-- The gather of one entry per row reads the entry that the two index words name, each clamped to its axis. -/
theorem gather_cell (p : FVec Ideal S256x8 .f32) (i : IVec S256x2 32) (r : Fin 256) :
    Host.gather gather_S256x8_S256x2_S256_n_01_n_n_01_1_11 p i (ix1 r)
      = p (ix2 (⟨min (i (ix2 r 0)).toInt.toNat 255, by omega⟩ : Fin 256) (⟨min (i (ix2 r 1)).toInt.toNat 7, by omega⟩ : Fin 8)) := by
  have h (c : Fin 2) : gather_S256x8_S256x2_S256_n_01_n_n_01_1_11.siIdx (ix1 r) c = ix2 r c := by
    funext b; apply Fin.ext
    match b with
    | ⟨0, _⟩ => rfl
    | ⟨1, _⟩ => rfl
  unfold Host.gather
  congr 1; funext a; apply Fin.ext
  match a with
  | ⟨0, _⟩ =>
    show min (i (gather_S256x8_S256x2_S256_n_01_n_n_01_1_11.siIdx (ix1 r) (⟨0, by decide⟩ : Fin 2))).toInt.toNat 255 + 0 + 0 = _
    rw [h]; rfl
  | ⟨1, _⟩ =>
    show min (i (gather_S256x8_S256x2_S256_n_01_n_n_01_1_11.siIdx (ix1 r) (⟨1, by decide⟩ : Fin 2))).toInt.toNat 7 + 0 + 0 = _
    rw [h]; rfl

/-- The gather of one matrix per row reads the matrix that the row's index word names, clamped to the eight. -/
theorem gather_mat (w : FVec Ideal S8x128x256 .f32) (i : IVec S256x1 32) (r : Fin 256) (k : Fin 128) (o : Fin 256) :
    Host.gather gather_S8x128x256_S256x1_S256x128x256_12_0_n_n_0_1_1128256 w i (ix3 r k o)
      = w (ix3 (⟨min (i (ix2 r 0)).toInt.toNat 7, by omega⟩ : Fin 8) k o) := by
  have h : gather_S8x128x256_S256x1_S256x128x256_12_0_n_n_0_1_1128256.siIdx (ix3 r k o) (⟨0, by decide⟩ : Fin 1) = ix2 r 0 := by
    funext b; apply Fin.ext
    match b with
    | ⟨0, _⟩ => rfl
    | ⟨1, _⟩ => rfl
  unfold Host.gather
  congr 1; funext a; apply Fin.ext
  match a with
  | ⟨0, _⟩ =>
    show min (i (gather_S8x128x256_S256x1_S256x128x256_12_0_n_n_0_1_1128256.siIdx (ix3 r k o) (⟨0, by decide⟩ : Fin 1))).toInt.toNat 7 + 0 + 0 = _
    rw [h]; rfl
  | ⟨1, _⟩ => exact Nat.zero_add _
  | ⟨2, _⟩ => exact Nat.zero_add _

set_option maxRecDepth 16384

/-- A word that names one of the eight experts. -/
theorem expert_toInt (e : Fin 8) : (BitVec.ofNat 32 e.val).toInt.toNat = e.val := by revert e; decide
/-- A row's number is not negative as a word, and names the row. -/
theorem row_not_neg (r : Fin 256) : IntOp.cmpi .slt (BitVec.ofNat 32 r.val) 0#32 = 0#1 := by revert r; decide
/-- A row's number is kept by its word, and no expert's word is negative. -/
theorem row_toInt (r : Fin 256) : (BitVec.ofNat 32 r.val).toInt.toNat = r.val := by revert r; decide
theorem expert_not_neg (e : Fin 8) : IntOp.cmpi .slt (BitVec.ofNat 32 e.val) 0#32 = 0#1 := by revert e; decide

/-- The two index vectors are the columns of the indices. -/
theorem first_entry (i : IVec S256x2 32) (r : Fin 256) : first i (ix1 r) = i (ix2 r 0) := by
  pointwise [first]

theorem second_entry (i : IVec S256x2 32) (r : Fin 256) : second i (ix1 r) = i (ix2 r 1) := by
  pointwise [second]

/-- Counting from the end changes no index that names an expert. -/
theorem wrap_expert (i : IVec S256 32) (r : Fin 256) (e : Fin 8) (h : i (ix1 r) = BitVec.ofNat 32 e.val) :
    wrap 8#32 i (ix1 r) = BitVec.ofNat 32 e.val := by
  pointwise [wrap]
  rw [h, expert_not_neg]; rfl

/-- The cell that a row's index names: its row, -/
theorem cell_row (i : IVec S256 32) (r : Fin 256) : cell i (ix2 r 0) = BitVec.ofNat 32 r.val := by
  pointwise [cell, col]
  pointwise [wrap]
  rw [row_not_neg]; rfl

/-- and its expert. -/
theorem cell_expert (i : IVec S256 32) (r : Fin 256) : cell i (ix2 r 1) = wrap 8#32 i (ix1 r) := by
  pointwise [cell, col]

/-- The picked entry of row `r` is the one of the expert that the row names. -/
theorem pick_entry (p : FVec Ideal S256x8 .f32) (i : IVec S256 32) (r : Fin 256) (e : Fin 8) (h : i (ix1 r) = BitVec.ofNat 32 e.val) :
    pick p i (ix1 r) = p (ix2 r e) := by
  unfold pick
  rw [gather_cell]
  congr 2 <;> apply Fin.ext
  · show min (cell i (ix2 r 0)).toInt.toNat 255 = r.val
    rw [cell_row, row_toInt]; omega
  · show min (cell i (ix2 r 1)).toInt.toNat 7 = e.val
    rw [cell_expert, wrap_expert i r e h, expert_toInt]; omega

/-- Row `r` goes through the matrix of the expert that it names. -/
theorem through_entry (x : FVec Ideal S256x128 .f32) (w : FVec Ideal S8x128x256 .f32) (i : IVec S256 32) (r o : Fin 256) (e : Fin 8)
    (h : i (ix1 r) = BitVec.ofNat 32 e.val) : through x w i (ix2 r o) = ∑ k : Fin 128, x (ix2 r k) * w (ix3 e k o) := by
  pointwise [through]
  refine Finset.sum_congr rfl fun k _ => congrArg (x (ix2 r k) * ·) ?_
  unfold mats
  rw [gather_mat]
  congr 2; apply Fin.ext
  show min (col (wrap 8#32 i) (ix2 r 0)).toInt.toNat 7 = e.val
  have hc : col (wrap 8#32 i) (ix2 r 0) = wrap 8#32 i (ix1 r) := by pointwise [col]
  rw [hc, wrap_expert i r e h, expert_toInt]; omega

/-- A probability is the softmax of its row's scores. -/
theorem probs_entry (s : FVec Ideal S256x8 .f32) (r : Fin 256) (k : Fin 8) : probs s (ix2 r k) = soft (fun j => s (ix2 r j)) k := by
  pointwise [probs, expo, across, soft, top]

/-- A score is the row times the router's column. -/
theorem scores_entry (x : FVec Ideal S256x128 .f32) (g : FVec Ideal S128x8 .f32) (r : Fin 256) (k : Fin 8) :
    scores x g (ix2 r k) = ∑ d, x (ix2 r d) * g (ix2 d k) := by
  pointwise [scores]

/-- An entry of the reference's result: the two experts' entries, each times its share of the two probabilities. -/
theorem mixture_entry (x : FVec Ideal S256x128 .f32) (g : FVec Ideal S128x8 .f32) (i : IVec S256x2 32) (w : FVec Ideal S8x128x256 .f32)
    (r o : Fin 256) (a b : Fin 8) (ha : i (ix2 r 0) = BitVec.ofNat 32 a.val) (hb : i (ix2 r 1) = BitVec.ofNat 32 b.val)
    (s : Fin 8 → EReal) (hs : ∀ k, s k = ∑ d, x (ix2 r d) * g (ix2 d k)) :
    mixture x g i w (ix2 r o)
      = Ideal.div (soft s a) (soft s a + soft s b) * (∑ k : Fin 128, x (ix2 r k) * w (ix3 a k o))
        + Ideal.div (soft s b) (soft s a + soft s b) * (∑ k : Fin 128, x (ix2 r k) * w (ix3 b k o)) := by
  have hr : (fun j => scores x g (ix2 r j)) = s := funext fun j => (scores_entry x g r j).trans (hs j).symm
  have h0 : first i (ix1 r) = BitVec.ofNat 32 a.val := (first_entry i r).trans ha
  have h1 : second i (ix1 r) = BitVec.ofNat 32 b.val := (second_entry i r).trans hb
  pointwise [mixture, scaled]
  rw [pick_entry _ _ r a h0, pick_entry _ _ r b h1, through_entry x w _ r o a h0, through_entry x w _ r o b h1,
    probs_entry, probs_entry, hr]

end Cert.ReferenceIdeal.Mix

end

end
-- ==== Proof.Equation.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Inputs
public import proofs.«01_k».proof.Proof.KernelIdealFrame
public import proofs.«01_k».proof.Proof.KernelValue
public import proofs.«01_k».proof.Proof.RefEntry

/-! The kernel computes the reference's mixture: each device its 64 rows of it. -/

@[expose] public section

noncomputable section

namespace Cert.Equation

open Idealize.ShloMosaic Idealize.SL.Sem Idealize.ShloMosaic.TcCoe
open Cert.KernelIdeal.Xchg (expert rowOf finalA out_value)
open Cert.ReferenceIdeal.Mix (mixture mixture_entry)
open Cert.Softmax

/-- Where an entry of a device's two matrices is among all eight. -/
theorem block_matrices (W : (⟨3, ![8, 128, 256]⟩ : Shape).Idx → EReal) (d : Fin 4) (j : Fin 2) (k : Fin 128) (o : Fin 256) :
    Layout.block ⟨3, ![2, 128, 256]⟩ ⟨3, ![8, 128, 256]⟩ 0 4 d W (by decide) (ix3 j k o) = W (ix3 (expert d j) k o) := by
  refine congrArg W (funext fun b => Fin.ext ?_)
  fin_cases b <;> simp [Layout.Tiles.idx_val, expert] <;> omega

/-- Where an entry of a device's 64 rows is among all 256. -/
theorem block_rows (v : (⟨2, ![256, 256]⟩ : Shape).Idx → EReal) (c : Fin 4) (t : Fin 64) (o : Fin 256) :
    Layout.block ⟨2, ![64, 256]⟩ ⟨2, ![256, 256]⟩ 0 4 c v (by decide) (ix2 t o) = v (ix2 (rowOf c t) o) := by
  refine congrArg v (funext fun b => Fin.ext ?_)
  fin_cases b <;> simp [Layout.Tiles.idx_val, rowOf] <;> omega

variable (m : (ℓ : Loc Cert.KernelIdeal.nD Cert.KernelIdeal.τ Cert.KernelIdeal.sig) → Buf (Elt Ideal) ℓ)

/-- A device's result is its block of the reference's. -/
theorem result_block (X : Cert.KernelIdeal.S256x128.Idx → EReal) (G : Cert.KernelIdeal.S128x8.Idx → EReal)
    (I : Cert.KernelIdeal.S256x2.Idx → BitVec 32) (W : (⟨3, ![8, 128, 256]⟩ : Shape).Idx → EReal)
    (hX : ∀ d : Dev Cert.KernelIdeal.nD, m ((d : Thread Cert.KernelIdeal.nD Cert.KernelIdeal.τ).loc Cert.KernelIdeal.main_arg0) = X)
    (hG : ∀ d : Dev Cert.KernelIdeal.nD, m ((d : Thread Cert.KernelIdeal.nD Cert.KernelIdeal.τ).loc Cert.KernelIdeal.main_arg1) = G)
    (hI : ∀ d : Dev Cert.KernelIdeal.nD, m ((d : Thread Cert.KernelIdeal.nD Cert.KernelIdeal.τ).loc Cert.KernelIdeal.main_arg2) = I)
    (hW : ∀ d : Dev Cert.KernelIdeal.nD, m ((d : Thread Cert.KernelIdeal.nD Cert.KernelIdeal.τ).loc Cert.KernelIdeal.main_arg3)
      = Layout.block ⟨3, ![2, 128, 256]⟩ ⟨3, ![8, 128, 256]⟩ 0 4 d W)
    (pre : Cert.Pre_KernelIdeal_finite_and_in_range_KernelIdeal m) (c : Dev Cert.KernelIdeal.nD) :
    (finalA m c 4 : (⟨2, ![64, 256]⟩ : Shape).Idx → EReal)
      = Layout.block ⟨2, ![64, 256]⟩ ⟨2, ![256, 256]⟩ 0 4 c (mixture (F := Ideal) X G I W) := by
  obtain ⟨rx, rg, ri⟩ := Inputs.decode (pre c)
  rw [hX] at rx; rw [hG] at rg; rw [hI] at ri
  funext j
  obtain ⟨t, o, rfl⟩ : ∃ (t : Fin 64) (o : Fin 256), j = ix2 t o := ⟨j 0, j 1, funext fun b => by fin_cases b <;> rfl⟩
  obtain ⟨a, ha⟩ := ri (ix2 (rowOf c t) 0)
  obtain ⟨b, hb⟩ := ri (ix2 (rowOf c t) 1)
  obtain ⟨s, hs⟩ := Inputs.scores_real rx rg (rowOf c t)
  refine (out_value m X G I W hX hG hI (fun d j k o => (congrFun (hW d) _).trans (block_matrices W d j k o)) c t o a b ha hb s hs).trans ?_
  refine Eq.trans ?_ (block_rows _ c t o).symm
  rw [mixture_entry X G I W (rowOf c t) o a b ha hb (fun k => (s k : EReal)) (fun k => (hs k).symm), share_first, share_second]

/-- The kernel's run ends with each device's block of the mixture of the whole inputs, which the reference's run ends with. -/
theorem algebraic : Cert.algebraic_KernelIdeal_ReferenceIdeal_pre_finite_and_in_range_KernelIdeal := by
  intro m g m' g' pre same
  refine ⟨Cert.ReferenceIdeal.Value.res_out0 m' 0, ?_, ?_⟩
  · refine (θ_run Cert.KernelIdeal.defs _ _).mono (fun r h c => ⟨?_, h.1.args c⟩) (Cert.KernelIdeal.Xchg.run_main m g)
    exact (h.1 c 4).trans (result_block m _ _ _ _ (fun d => (same d).1) (fun d => (same d).2.1) (fun d => (same d).2.2.1)
      (fun d => (same d).2.2.2) pre c)
  · exact (θ_run Cert.ReferenceIdeal.defs _ _).mono (fun r h => h 0) (Cert.ReferenceIdeal.Value.run m' g')

end Cert.Equation

end

end
-- ==== Proof.lean ====
/- The certificate: every claim of `Cert.Claim`, assembled from the modules under `Proof/`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_and_in_range_KernelIdeal
public import proofs.«01_k».proof.Proof.Gen.Pre_finite_and_in_range_ReferenceIdeal
public import proofs.«01_k».proof.Proof.KernelFrame
public import proofs.«01_k».proof.Proof.KernelIdealFrame
public import proofs.«01_k».proof.Proof.Equation

@[expose] public section

noncomputable section

namespace Cert.Proof

open Idealize.ShloMosaic Idealize.SL.Sem

/-- The reference runs, keeps its arguments and, declaring no semaphore, ends with every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- All claims of the certificate. -/
theorem claim : Cert.Claim :=
  ⟨Cert.Kernel.Gen.facts, Cert.KernelIdeal.Gen.facts, Cert.ReferenceIdeal.Gen.facts,
    Cert.Pre_finite_and_in_range_KernelIdeal.Gen.facts, Cert.Pre_finite_and_in_range_ReferenceIdeal.Gen.facts,
    fun m g _ => Cert.Kernel.Xchg.frame m g, fun m g _ => Cert.KernelIdeal.Xchg.frame m g,
    fun m g _ => Cert.KernelIdeal.Xchg.frame m g, reference_frame,
    fun m g _ => reference_frame m g trivial, trivial, Cert.Equation.algebraic⟩

end Cert.Proof

end

end
